-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S512x8 : Shape := ⟨2, ![512, 8]⟩
abbrev S512 : Shape := ⟨1, ![512]⟩
abbrev S512x1 : Shape := ⟨2, ![512, 1]⟩
abbrev S_ : Shape := ⟨0, ![]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  dot_S512x256_S256x8_S512x8_1_0_0_1_n_n_wf : DotDims.WF S512x256 S256x8 S512x8 [1] [0] [0] [1] [] []
  gather_S512x8_S512x2_S512_n_01_n_n_01_1_11_wf : GatherDims.WF S512x8 S512x2 S512 [] [0, 1] [] [0, 1] [] 1 ![1, 1]

variable [Facts]

def dot_S512x256_S256x8_S512x8_1_0_0_1_n_n : DotDims S512x256 S256x8 S512x8 where
  lhsContracting := [1]
  rhsContracting := [0]
  lhsNonContracting := [0]
  rhsNonContracting := [1]
  lhsBatch := []
  rhsBatch := []
  wf := dot_S512x256_S256x8_S512x8_1_0_0_1_n_n_wf
def gather_S512x8_S512x2_S512_n_01_n_n_01_1_11 : GatherDims S512x8 S512x2 S512 where
  offsetDims := []
  collapsedSliceDims := [0, 1]
  operandBatchingDims := []
  startIndicesBatchingDims := []
  startIndexMap := [0, 1]
  indexVectorDim := 1
  sliceSizes := ![1, 1]
  wf := gather_S512x8_S512x2_S512_n_01_n_n_01_1_11_wf
def fn_part2 {F : FTy → Type} [FloatOps F] (main_v0 : FVec F S512x8 .f32) (main_v1 : IVec S512 32) (main_v5 : IVec S512 32) (main_v18 : IVec S512 1) (main_v34 : IVec S512 1) (main_v36 : IVec S512 1) (main_c_8 : IVec S_ 32) : IVec S512 1 :=
  let main_v37 : IVec S512 32 := broadcastInDim S512 ![] bcast_S_S512 main_c_8
  let main_v38 : IVec S512 32 := addi main_v1 main_v37
  let main_v39 : IVec S512 32 := select main_v36 main_v38 main_v1
  let main_c_9 : IVec S_ 32 := constantI S_ 32 0#32
  let main_v40 : IVec S512 32 := broadcastInDim S512 ![] bcast_S_S512 main_c_9
  let main_v41 : IVec S512 1 := cmpi .slt main_v5 main_v40
  let main_c_10 : IVec S_ 32 := constantI S_ 32 8#32
  let main_v42 : IVec S512 32 := broadcastInDim S512 ![] bcast_S_S512 main_c_10
  let main_v43 : IVec S512 32 := addi main_v5 main_v42
  let main_v44 : IVec S512 32 := select main_v41 main_v43 main_v5
  let main_v45 : IVec S512x1 32 := broadcastInDim S512x1 ![0] bcast_S512_S512x1_0 main_v39
  let main_v46 : IVec S512x1 32 := broadcastInDim S512x1 ![0] bcast_S512_S512x1_0 main_v44
  let main_v47 : IVec S512x2 32 := (fun a b => concatenate S512x2 1 [⟨S512x1, a⟩, ⟨S512x1, b⟩] concatenates_S512x1_S512x1_S512x2_d1) main_v45 main_v46
  let main_v48 : FVec F S512 .f32 := (fun x i => Host.gather gather_S512x8_S512x2_S512_n_01_n_n_01_1_11 x i) main_v0 main_v47
  let main_cst_11 : FVec F S_ .f32 := constant S_ .f32 0xFF800000#32
  let main_v49 : FVec F S512 .f32 := broadcastInDim S512 ![] bcast_S_S512 main_cst_11
  let main_v50 : IVec S512 1 := cmpf .ogt main_v48 main_v49
  let main_v51 : IVec S512 1 := ori main_v34 main_v50
  let main_v52 : IVec S512 1 := andi main_v18 main_v51
  main_v52

def fn_part1 {F : FTy → Type} [FloatOps F] (main_v0 : FVec F S512x8 .f32) (main_v1 : IVec S512 32) (main_v3 : IVec S512 32) (main_v5 : IVec S512 32) (main_v18 : IVec S512 1) (main_c_3 : IVec S_ 32) : IVec S512 1 :=
  let main_v19 : IVec S512 32 := broadcastInDim S512 ![] bcast_S_S512 main_c_3
  let main_v20 : IVec S512 1 := cmpi .slt main_v1 main_v19
  let main_c_4 : IVec S_ 32 := constantI S_ 32 512#32
  let main_v21 : IVec S512 32 := broadcastInDim S512 ![] bcast_S_S512 main_c_4
  let main_v22 : IVec S512 32 := addi main_v1 main_v21
  let main_v23 : IVec S512 32 := select main_v20 main_v22 main_v1
  let main_c_5 : IVec S_ 32 := constantI S_ 32 0#32
  let main_v24 : IVec S512 32 := broadcastInDim S512 ![] bcast_S_S512 main_c_5
  let main_v25 : IVec S512 1 := cmpi .slt main_v3 main_v24
  let main_c_6 : IVec S_ 32 := constantI S_ 32 8#32
  let main_v26 : IVec S512 32 := broadcastInDim S512 ![] bcast_S_S512 main_c_6
  let main_v27 : IVec S512 32 := addi main_v3 main_v26
  let main_v28 : IVec S512 32 := select main_v25 main_v27 main_v3
  let main_v29 : IVec S512x1 32 := broadcastInDim S512x1 ![0] bcast_S512_S512x1_0 main_v23
  let main_v30 : IVec S512x1 32 := broadcastInDim S512x1 ![0] bcast_S512_S512x1_0 main_v28
  let main_v31 : IVec S512x2 32 := (fun a b => concatenate S512x2 1 [⟨S512x1, a⟩, ⟨S512x1, b⟩] concatenates_S512x1_S512x1_S512x2_d1) main_v29 main_v30
  let main_v32 : FVec F S512 .f32 := (fun x i => Host.gather gather_S512x8_S512x2_S512_n_01_n_n_01_1_11 x i) main_v0 main_v31
  let main_cst : FVec F S_ .f32 := constant S_ .f32 0xFF800000#32
  let main_v33 : FVec F S512 .f32 := broadcastInDim S512 ![] bcast_S_S512 main_cst
  let main_v34 : IVec S512 1 := cmpf .ogt main_v32 main_v33
  let main_c_7 : IVec S_ 32 := constantI S_ 32 0#32
  let main_v35 : IVec S512 32 := broadcastInDim S512 ![] bcast_S_S512 main_c_7
  let main_v36 : IVec S512 1 := cmpi .slt main_v1 main_v35
  let main_c_8 : IVec S_ 32 := constantI S_ 32 512#32
  fn_part2 (F := F) main_v0 main_v1 main_v5 main_v18 main_v34 main_v36 main_c_8

def fn {F : FTy → Type} [FloatOps F] (main_arg0 : FVec F S512x256 .f32) (main_arg1 : FVec F S256x8 .f32) (main_arg2 : IVec S512x2 32) (main_arg3 : FVec F S2x256x512 .f32) : IVec S512 1 :=
  let main_v0 : FVec F S512x8 .f32 := (fun l r => Host.dotGeneral dot_S512x256_S256x8_S512x8_1_0_0_1_n_n none l r) main_arg0 main_arg1
  let main_v1 : IVec S512 32 := iotaInDim S512 32 0
  let main_v2 : IVec S512x1 32 := (extractStridedSlice S512x1 ![0, 0] · slices_S512x2_S512x1_0_0) main_arg2
  let main_v3 : IVec S512 32 := shapeCast S512 main_v2 shapeCasts_S512x1_S512
  let main_v4 : IVec S512x1 32 := (extractStridedSlice S512x1 ![0, 1] · slices_S512x2_S512x1_0_1) main_arg2
  let main_v5 : IVec S512 32 := shapeCast S512 main_v4 shapeCasts_S512x1_S512
  let main_c : IVec S_ 32 := constantI S_ 32 0#32
  let main_v6 : IVec S512 32 := broadcastInDim S512 ![] bcast_S_S512 main_c
  let main_v7 : IVec S512 1 := cmpi .sge main_v3 main_v6
  let main_c_0 : IVec S_ 32 := constantI S_ 32 8#32
  let main_v8 : IVec S512 32 := broadcastInDim S512 ![] bcast_S_S512 main_c_0
  let main_v9 : IVec S512 1 := cmpi .slt main_v3 main_v8
  let main_v10 : IVec S512 1 := andi main_v7 main_v9
  let main_c_1 : IVec S_ 32 := constantI S_ 32 0#32
  let main_v11 : IVec S512 32 := broadcastInDim S512 ![] bcast_S_S512 main_c_1
  let main_v12 : IVec S512 1 := cmpi .sge main_v5 main_v11
  let main_v13 : IVec S512 1 := andi main_v10 main_v12
  let main_c_2 : IVec S_ 32 := constantI S_ 32 8#32
  let main_v14 : IVec S512 32 := broadcastInDim S512 ![] bcast_S_S512 main_c_2
  let main_v15 : IVec S512 1 := cmpi .slt main_v5 main_v14
  let main_v16 : IVec S512 1 := andi main_v13 main_v15
  let main_v17 : IVec S512 1 := cmpi .ne main_v3 main_v5
  let main_v18 : IVec S512 1 := andi main_v16 main_v17
  let main_c_3 : IVec S_ 32 := constantI S_ 32 0#32
  fn_part1 (F := F) main_v0 main_v1 main_v3 main_v5 main_v18 main_c_3
-- ==== Pre_routed_ReferenceIdeal.lean ====
abbrev S512x256 : Shape := ⟨2, ![512, 256]⟩
abbrev S256x8 : Shape := ⟨2, ![256, 8]⟩
abbrev S512x2 : Shape := ⟨2, ![512, 2]⟩
abbrev S8x256x512 : Shape := ⟨3, ![8, 256, 512]⟩
abbrev S512x8 : Shape := ⟨2, ![512, 8]⟩
abbrev S512 : Shape := ⟨1, ![512]⟩
abbrev S512x1 : Shape := ⟨2, ![512, 1]⟩
abbrev S_ : Shape := ⟨0, ![]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  dot_S512x256_S256x8_S512x8_1_0_0_1_n_n_wf : DotDims.WF S512x256 S256x8 S512x8 [1] [0] [0] [1] [] []
  gather_S512x8_S512x2_S512_n_01_n_n_01_1_11_wf : GatherDims.WF S512x8 S512x2 S512 [] [0, 1] [] [0, 1] [] 1 ![1, 1]

variable [Facts]

def dot_S512x256_S256x8_S512x8_1_0_0_1_n_n : DotDims S512x256 S256x8 S512x8 where
  lhsContracting := [1]
  rhsContracting := [0]
  lhsNonContracting := [0]
  rhsNonContracting := [1]
  lhsBatch := []
  rhsBatch := []
  wf := dot_S512x256_S256x8_S512x8_1_0_0_1_n_n_wf
def gather_S512x8_S512x2_S512_n_01_n_n_01_1_11 : GatherDims S512x8 S512x2 S512 where
  offsetDims := []
  collapsedSliceDims := [0, 1]
  operandBatchingDims := []
  startIndicesBatchingDims := []
  startIndexMap := [0, 1]
  indexVectorDim := 1
  sliceSizes := ![1, 1]
  wf := gather_S512x8_S512x2_S512_n_01_n_n_01_1_11_wf
def fn_part2 {F : FTy → Type} [FloatOps F] (main_v0 : FVec F S512x8 .f32) (main_v1 : IVec S512 32) (main_v5 : IVec S512 32) (main_v18 : IVec S512 1) (main_v34 : IVec S512 1) (main_v36 : IVec S512 1) (main_c_8 : IVec S_ 32) : IVec S512 1 :=
  let main_v37 : IVec S512 32 := broadcastInDim S512 ![] bcast_S_S512 main_c_8
  let main_v38 : IVec S512 32 := addi main_v1 main_v37
  let main_v39 : IVec S512 32 := select main_v36 main_v38 main_v1
  let main_c_9 : IVec S_ 32 := constantI S_ 32 0#32
  let main_v40 : IVec S512 32 := broadcastInDim S512 ![] bcast_S_S512 main_c_9
  let main_v41 : IVec S512 1 := cmpi .slt main_v5 main_v40
  let main_c_10 : IVec S_ 32 := constantI S_ 32 8#32
  let main_v42 : IVec S512 32 := broadcastInDim S512 ![] bcast_S_S512 main_c_10
  let main_v43 : IVec S512 32 := addi main_v5 main_v42
  let main_v44 : IVec S512 32 := select main_v41 main_v43 main_v5
  let main_v45 : IVec S512x1 32 := broadcastInDim S512x1 ![0] bcast_S512_S512x1_0 main_v39
  let main_v46 : IVec S512x1 32 := broadcastInDim S512x1 ![0] bcast_S512_S512x1_0 main_v44
  let main_v47 : IVec S512x2 32 := (fun a b => concatenate S512x2 1 [⟨S512x1, a⟩, ⟨S512x1, b⟩] concatenates_S512x1_S512x1_S512x2_d1) main_v45 main_v46
  let main_v48 : FVec F S512 .f32 := (fun x i => Host.gather gather_S512x8_S512x2_S512_n_01_n_n_01_1_11 x i) main_v0 main_v47
  let main_cst_11 : FVec F S_ .f32 := constant S_ .f32 0xFF800000#32
  let main_v49 : FVec F S512 .f32 := broadcastInDim S512 ![] bcast_S_S512 main_cst_11
  let main_v50 : IVec S512 1 := cmpf .ogt main_v48 main_v49
  let main_v51 : IVec S512 1 := ori main_v34 main_v50
  let main_v52 : IVec S512 1 := andi main_v18 main_v51
  main_v52

def fn_part1 {F : FTy → Type} [FloatOps F] (main_v0 : FVec F S512x8 .f32) (main_v1 : IVec S512 32) (main_v3 : IVec S512 32) (main_v5 : IVec S512 32) (main_v18 : IVec S512 1) (main_c_3 : IVec S_ 32) : IVec S512 1 :=
  let main_v19 : IVec S512 32 := broadcastInDim S512 ![] bcast_S_S512 main_c_3
  let main_v20 : IVec S512 1 := cmpi .slt main_v1 main_v19
  let main_c_4 : IVec S_ 32 := constantI S_ 32 512#32
  let main_v21 : IVec S512 32 := broadcastInDim S512 ![] bcast_S_S512 main_c_4
  let main_v22 : IVec S512 32 := addi main_v1 main_v21
  let main_v23 : IVec S512 32 := select main_v20 main_v22 main_v1
  let main_c_5 : IVec S_ 32 := constantI S_ 32 0#32
  let main_v24 : IVec S512 32 := broadcastInDim S512 ![] bcast_S_S512 main_c_5
  let main_v25 : IVec S512 1 := cmpi .slt main_v3 main_v24
  let main_c_6 : IVec S_ 32 := constantI S_ 32 8#32
  let main_v26 : IVec S512 32 := broadcastInDim S512 ![] bcast_S_S512 main_c_6
  let main_v27 : IVec S512 32 := addi main_v3 main_v26
  let main_v28 : IVec S512 32 := select main_v25 main_v27 main_v3
  let main_v29 : IVec S512x1 32 := broadcastInDim S512x1 ![0] bcast_S512_S512x1_0 main_v23
  let main_v30 : IVec S512x1 32 := broadcastInDim S512x1 ![0] bcast_S512_S512x1_0 main_v28
  let main_v31 : IVec S512x2 32 := (fun a b => concatenate S512x2 1 [⟨S512x1, a⟩, ⟨S512x1, b⟩] concatenates_S512x1_S512x1_S512x2_d1) main_v29 main_v30
  let main_v32 : FVec F S512 .f32 := (fun x i => Host.gather gather_S512x8_S512x2_S512_n_01_n_n_01_1_11 x i) main_v0 main_v31
  let main_cst : FVec F S_ .f32 := constant S_ .f32 0xFF800000#32
  let main_v33 : FVec F S512 .f32 := broadcastInDim S512 ![] bcast_S_S512 main_cst
  let main_v34 : IVec S512 1 := cmpf .ogt main_v32 main_v33
  let main_c_7 : IVec S_ 32 := constantI S_ 32 0#32
  let main_v35 : IVec S512 32 := broadcastInDim S512 ![] bcast_S_S512 main_c_7
  let main_v36 : IVec S512 1 := cmpi .slt main_v1 main_v35
  let main_c_8 : IVec S_ 32 := constantI S_ 32 512#32
  fn_part2 (F := F) main_v0 main_v1 main_v5 main_v18 main_v34 main_v36 main_c_8

def fn {F : FTy → Type} [FloatOps F] (main_arg0 : FVec F S512x256 .f32) (main_arg1 : FVec F S256x8 .f32) (main_arg2 : IVec S512x2 32) (main_arg3 : FVec F S8x256x512 .f32) : IVec S512 1 :=
  let main_v0 : FVec F S512x8 .f32 := (fun l r => Host.dotGeneral dot_S512x256_S256x8_S512x8_1_0_0_1_n_n none l r) main_arg0 main_arg1
  let main_v1 : IVec S512 32 := iotaInDim S512 32 0
  let main_v2 : IVec S512x1 32 := (extractStridedSlice S512x1 ![0, 0] · slices_S512x2_S512x1_0_0) main_arg2
  let main_v3 : IVec S512 32 := shapeCast S512 main_v2 shapeCasts_S512x1_S512
  let main_v4 : IVec S512x1 32 := (extractStridedSlice S512x1 ![0, 1] · slices_S512x2_S512x1_0_1) main_arg2
  let main_v5 : IVec S512 32 := shapeCast S512 main_v4 shapeCasts_S512x1_S512
  let main_c : IVec S_ 32 := constantI S_ 32 0#32
  let main_v6 : IVec S512 32 := broadcastInDim S512 ![] bcast_S_S512 main_c
  let main_v7 : IVec S512 1 := cmpi .sge main_v3 main_v6
  let main_c_0 : IVec S_ 32 := constantI S_ 32 8#32
  let main_v8 : IVec S512 32 := broadcastInDim S512 ![] bcast_S_S512 main_c_0
  let main_v9 : IVec S512 1 := cmpi .slt main_v3 main_v8
  let main_v10 : IVec S512 1 := andi main_v7 main_v9
  let main_c_1 : IVec S_ 32 := constantI S_ 32 0#32
  let main_v11 : IVec S512 32 := broadcastInDim S512 ![] bcast_S_S512 main_c_1
  let main_v12 : IVec S512 1 := cmpi .sge main_v5 main_v11
  let main_v13 : IVec S512 1 := andi main_v10 main_v12
  let main_c_2 : IVec S_ 32 := constantI S_ 32 8#32
  let main_v14 : IVec S512 32 := broadcastInDim S512 ![] bcast_S_S512 main_c_2
  let main_v15 : IVec S512 1 := cmpi .slt main_v5 main_v14
  let main_v16 : IVec S512 1 := andi main_v13 main_v15
  let main_v17 : IVec S512 1 := cmpi .ne main_v3 main_v5
  let main_v18 : IVec S512 1 := andi main_v16 main_v17
  let main_c_3 : IVec S_ 32 := constantI S_ 32 0#32
  fn_part1 (F := F) main_v0 main_v1 main_v3 main_v5 main_v18 main_c_3
-- ==== Kernel.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S128x512 : Shape := ⟨2, ![128, 512]⟩
abbrev S2x512x256 : Shape := ⟨3, ![2, 512, 256]⟩
abbrev S512x512 : Shape := ⟨2, ![512, 512]⟩
abbrev S3 : Shape := ⟨1, ![3]⟩
abbrev S4 : Shape := ⟨1, ![4]⟩
abbrev S_ : Shape := ⟨0, ![]⟩
abbrev S512x8 : Shape := ⟨2, ![512, 8]⟩
abbrev S512 : Shape := ⟨1, ![512]⟩
abbrev S512x1 : Shape := ⟨2, ![512, 1]⟩
abbrev S1x512x256 : Shape := ⟨3, ![1, 512, 256]⟩
abbrev S1x256x512 : Shape := ⟨3, ![1, 256, 512]⟩
abbrev S256x512 : Shape := ⟨2, ![256, 512]⟩
abbrev S1x128x256 : Shape := ⟨3, ![1, 128, 256]⟩
abbrev S128x256 : Shape := ⟨2, ![128, 256]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x2, .i32⟩
  | .hbm, ⟨3, _⟩ => ⟨S2x256x512, .f32⟩
  | .hbm, ⟨4, _⟩ => ⟨S128x512, .f32⟩
  | .local _ .vmem, ⟨0, _⟩ => ⟨S512x256, .f32⟩
  | .local _ .vmem, ⟨1, _⟩ => ⟨S256x8, .f32⟩
  | .local _ .vmem, ⟨2, _⟩ => ⟨S512x2, .i32⟩
  | .local _ .vmem, ⟨3, _⟩ => ⟨S2x256x512, .f32⟩
  | .local _ .vmem, ⟨4, _⟩ => ⟨S128x512, .f32⟩
  | .local _ .vmem, ⟨5, _⟩ => ⟨S2x512x256, .f32⟩
  | .local _ .vmem, ⟨6, _⟩ => ⟨S512x512, .f32⟩
  | .local _ .vmem, ⟨7, _⟩ => ⟨S512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_57 : BitVec 32) : Fin 3 → Nat :=
  let c0_64 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.addi v2 c1_i32_57
  let c4_i32_58 : BitVec 32 := 4#32
  let c0_i32_59 : BitVec 32 := 0#32
  let v109 : BitVec 1 := Scalar.cmpi .eq c4_i32_58 c0_i32_59
  let c1_i32_60 : BitVec 32 := 1#32
  let v110 : BitVec 32 := Scalar.select v109 c1_i32_60 c4_i32_58
  let v111 : BitVec 32 := Scalar.remsi v108 v110
  let c0_i32_62 : BitVec 32 := 0#32
  let v113 : BitVec 1 := Scalar.cmpi .slt v111 c0_i32_62
  let c0_i32_63 : BitVec 32 := 0#32
  let v114 : BitVec 1 := Scalar.cmpi .slt v110 c0_i32_63
  let v115 : BitVec 1 := Scalar.xori v113 v114
  let c0_i32_61 : BitVec 32 := 0#32
  let v112 : BitVec 1 := Scalar.cmpi .ne v111 c0_i32_61
  let v116 : BitVec 1 := Scalar.andi v115 v112
  let v117 : BitVec 32 := Scalar.addi v111 v110
  let v118 : BitVec 32 := Scalar.select v116 v117 v111
  let c128_i32 : BitVec 32 := 128#32
  let v119 : BitVec 32 := Scalar.muli v118 c128_i32
  let v120 : Index := Scalar.indexCast v119
  let c0_65 : Index := 0#32
  ![0, v120.toNat, 0]
def k0_off2 (d0 : Dev nD) (c1_i32_57 : BitVec 32) : Fin 3 → Nat :=
  let c1_67 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.addi v2 c1_i32_57
  let c4_i32_58 : BitVec 32 := 4#32
  let c0_i32_59 : BitVec 32 := 0#32
  let v109 : BitVec 1 := Scalar.cmpi .eq c4_i32_58 c0_i32_59
  let c1_i32_60 : BitVec 32 := 1#32
  let v110 : BitVec 32 := Scalar.select v109 c1_i32_60 c4_i32_58
  let v111 : BitVec 32 := Scalar.remsi v108 v110
  let c0_i32_62 : BitVec 32 := 0#32
  let v113 : BitVec 1 := Scalar.cmpi .slt v111 c0_i32_62
  let c0_i32_63 : BitVec 32 := 0#32
  let v114 : BitVec 1 := Scalar.cmpi .slt v110 c0_i32_63
  let v115 : BitVec 1 := Scalar.xori v113 v114
  let c0_i32_61 : BitVec 32 := 0#32
  let v112 : BitVec 1 := Scalar.cmpi .ne v111 c0_i32_61
  let v116 : BitVec 1 := Scalar.andi v115 v112
  let v117 : BitVec 32 := Scalar.addi v111 v110
  let v118 : BitVec 32 := Scalar.select v116 v117 v111
  let c128_i32 : BitVec 32 := 128#32
  let v119 : BitVec 32 := Scalar.muli v118 c128_i32
  let v124 : Index := Scalar.indexCast v119
  let c0_68 : Index := 0#32
  ![1, v124.toNat, 0]
def k0_off3 (d0 : Dev nD) (c1_i32_57 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.addi v2 c1_i32_57
  let c4_i32_58 : BitVec 32 := 4#32
  let c0_i32_59 : BitVec 32 := 0#32
  let v109 : BitVec 1 := Scalar.cmpi .eq c4_i32_58 c0_i32_59
  let c1_i32_60 : BitVec 32 := 1#32
  let v110 : BitVec 32 := Scalar.select v109 c1_i32_60 c4_i32_58
  let v111 : BitVec 32 := Scalar.remsi v108 v110
  let c0_i32_62 : BitVec 32 := 0#32
  let v113 : BitVec 1 := Scalar.cmpi .slt v111 c0_i32_62
  let c0_i32_63 : BitVec 32 := 0#32
  let v114 : BitVec 1 := Scalar.cmpi .slt v110 c0_i32_63
  let v115 : BitVec 1 := Scalar.xori v113 v114
  let c0_i32_61 : BitVec 32 := 0#32
  let v112 : BitVec 1 := Scalar.cmpi .ne v111 c0_i32_61
  let v116 : BitVec 1 := Scalar.andi v115 v112
  let v117 : BitVec 32 := Scalar.addi v111 v110
  let v118 : BitVec 32 := Scalar.select v116 v117 v111
  let c128_i32 : BitVec 32 := 128#32
  let v119 : BitVec 32 := Scalar.muli v118 c128_i32
  let v129 : Index := Scalar.indexCast v119
  let c0_70 : Index := 0#32
  ![v129.toNat, 0]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_71 : BitVec 32 := 128#32
  let v133 : BitVec 32 := Scalar.muli v2 c128_i32_71
  let c0_i32_75 : BitVec 32 := 0#32
  ![v133.toNat, 0]
def k0_off6 (d0 : Dev nD) (c1_i32_57 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.addi v2 c1_i32_57
  let c4_i32_58 : BitVec 32 := 4#32
  let c0_i32_59 : BitVec 32 := 0#32
  let v109 : BitVec 1 := Scalar.cmpi .eq c4_i32_58 c0_i32_59
  let c1_i32_60 : BitVec 32 := 1#32
  let v110 : BitVec 32 := Scalar.select v109 c1_i32_60 c4_i32_58
  let v111 : BitVec 32 := Scalar.remsi v108 v110
  let c0_i32_62 : BitVec 32 := 0#32
  let v113 : BitVec 1 := Scalar.cmpi .slt v111 c0_i32_62
  let c0_i32_63 : BitVec 32 := 0#32
  let v114 : BitVec 1 := Scalar.cmpi .slt v110 c0_i32_63
  let v115 : BitVec 1 := Scalar.xori v113 v114
  let c0_i32_61 : BitVec 32 := 0#32
  let v112 : BitVec 1 := Scalar.cmpi .ne v111 c0_i32_61
  let v116 : BitVec 1 := Scalar.andi v115 v112
  let v117 : BitVec 32 := Scalar.addi v111 v110
  let v118 : BitVec 32 := Scalar.select v116 v117 v111
  let c128_i32 : BitVec 32 := 128#32
  let v119 : BitVec 32 := Scalar.muli v118 c128_i32
  let c0_i32_76 : BitVec 32 := 0#32
  ![v119.toNat, 0]
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_57 : BitVec 32 := 1#32
  let v108 : BitVec 32 := Scalar.addi v2 c1_i32_57
  let c4_i32_58 : BitVec 32 := 4#32
  let c0_i32_59 : BitVec 32 := 0#32
  let v109 : BitVec 1 := Scalar.cmpi .eq c4_i32_58 c0_i32_59
  let c1_i32_60 : BitVec 32 := 1#32
  let v110 : BitVec 32 := Scalar.select v109 c1_i32_60 c4_i32_58
  let v111 : BitVec 32 := Scalar.remsi v108 v110
  let c0_i32_62 : BitVec 32 := 0#32
  let v113 : BitVec 1 := Scalar.cmpi .slt v111 c0_i32_62
  let c0_i32_63 : BitVec 32 := 0#32
  let v114 : BitVec 1 := Scalar.cmpi .slt v110 c0_i32_63
  let v115 : BitVec 1 := Scalar.xori v113 v114
  let c0_i32_61 : BitVec 32 := 0#32
  let v112 : BitVec 1 := Scalar.cmpi .ne v111 c0_i32_61
  let v116 : BitVec 1 := Scalar.andi v115 v112
  let v117 : BitVec 32 := Scalar.addi v111 v110
  let v118 : BitVec 32 := Scalar.select v116 v117 v111
  let c1_i32_73 : BitVec 32 := 1#32
  let v134 : BitVec 32 := Scalar.muli v118 c1_i32_73
  let v135 : BitVec 32 := Scalar.addi c0_i32_74 v134
  v135.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_77 : BitVec 32 := 2#32
  let v142 : BitVec 32 := Scalar.addi v2 c2_i32_77
  let c4_i32_78 : BitVec 32 := 4#32
  let c0_i32_79 : BitVec 32 := 0#32
  let v143 : BitVec 1 := Scalar.cmpi .eq c4_i32_78 c0_i32_79
  let c1_i32_80 : BitVec 32 := 1#32
  let v144 : BitVec 32 := Scalar.select v143 c1_i32_80 c4_i32_78
  let v145 : BitVec 32 := Scalar.remsi v142 v144
  let c0_i32_82 : BitVec 32 := 0#32
  let v147 : BitVec 1 := Scalar.cmpi .slt v145 c0_i32_82
  let c0_i32_83 : BitVec 32 := 0#32
  let v148 : BitVec 1 := Scalar.cmpi .slt v144 c0_i32_83
  let v149 : BitVec 1 := Scalar.xori v147 v148
  let c0_i32_81 : BitVec 32 := 0#32
  let v146 : BitVec 1 := Scalar.cmpi .ne v145 c0_i32_81
  let v150 : BitVec 1 := Scalar.andi v149 v146
  let v151 : BitVec 32 := Scalar.addi v145 v144
  let v152 : BitVec 32 := Scalar.select v150 v151 v145
  let c1_i32_94 : BitVec 32 := 1#32
  let v168 : BitVec 32 := Scalar.muli v152 c1_i32_94
  let v169 : BitVec 32 := Scalar.addi c0_i32_95 v168
  v169.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_98 : BitVec 32 := 3#32
  let v176 : BitVec 32 := Scalar.addi v2 c3_i32_98
  let c4_i32_99 : BitVec 32 := 4#32
  let c0_i32_100 : BitVec 32 := 0#32
  let v177 : BitVec 1 := Scalar.cmpi .eq c4_i32_99 c0_i32_100
  let c1_i32_101 : BitVec 32 := 1#32
  let v178 : BitVec 32 := Scalar.select v177 c1_i32_101 c4_i32_99
  let v179 : BitVec 32 := Scalar.remsi v176 v178
  let c0_i32_103 : BitVec 32 := 0#32
  let v181 : BitVec 1 := Scalar.cmpi .slt v179 c0_i32_103
  let c0_i32_104 : BitVec 32 := 0#32
  let v182 : BitVec 1 := Scalar.cmpi .slt v178 c0_i32_104
  let v183 : BitVec 1 := Scalar.xori v181 v182
  let c0_i32_102 : BitVec 32 := 0#32
  let v180 : BitVec 1 := Scalar.cmpi .ne v179 c0_i32_102
  let v184 : BitVec 1 := Scalar.andi v183 v180
  let v185 : BitVec 32 := Scalar.addi v179 v178
  let v186 : BitVec 32 := Scalar.select v184 v185 v179
  let c1_i32_115 : BitVec 32 := 1#32
  let v202 : BitVec 32 := Scalar.muli v186 c1_i32_115
  let v203 : BitVec 32 := Scalar.addi c0_i32_116 v202
  v203.toNat
def k0_off7 (d0 : Dev nD) : Fin 3 → Nat :=
  let c0_120 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_119 : BitVec 32 := 128#32
  let v210 : BitVec 32 := Scalar.muli v2 c128_i32_119
  let v211 : Index := Scalar.indexCast v210
  let c0_121 : Index := 0#32
  ![0, v211.toNat, 0]
def k0_off8 (d0 : Dev nD) : Fin 3 → Nat :=
  let c1_123 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_119 : BitVec 32 := 128#32
  let v210 : BitVec 32 := Scalar.muli v2 c128_i32_119
  let v215 : Index := Scalar.indexCast v210
  let c0_124 : Index := 0#32
  ![1, v215.toNat, 0]
def k0_off9 (d0 : Dev nD) (c1_i32_126 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v220 : BitVec 32 := Scalar.subi v2 c1_i32_126
  let c4_i32_127 : BitVec 32 := 4#32
  let c0_i32_128 : BitVec 32 := 0#32
  let v221 : BitVec 1 := Scalar.cmpi .eq c4_i32_127 c0_i32_128
  let c1_i32_129 : BitVec 32 := 1#32
  let v222 : BitVec 32 := Scalar.select v221 c1_i32_129 c4_i32_127
  let v223 : BitVec 32 := Scalar.remsi v220 v222
  let c0_i32_131 : BitVec 32 := 0#32
  let v225 : BitVec 1 := Scalar.cmpi .slt v223 c0_i32_131
  let c0_i32_132 : BitVec 32 := 0#32
  let v226 : BitVec 1 := Scalar.cmpi .slt v222 c0_i32_132
  let v227 : BitVec 1 := Scalar.xori v225 v226
  let c0_i32_130 : BitVec 32 := 0#32
  let v224 : BitVec 1 := Scalar.cmpi .ne v223 c0_i32_130
  let v228 : BitVec 1 := Scalar.andi v227 v224
  let v229 : BitVec 32 := Scalar.addi v223 v222
  let v230 : BitVec 32 := Scalar.select v228 v229 v223
  ![v230.toNat]
def k0_off10 (d0 : Dev nD) (c1_i32_126 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v220 : BitVec 32 := Scalar.subi v2 c1_i32_126
  let c4_i32_127 : BitVec 32 := 4#32
  let c0_i32_128 : BitVec 32 := 0#32
  let v221 : BitVec 1 := Scalar.cmpi .eq c4_i32_127 c0_i32_128
  let c1_i32_129 : BitVec 32 := 1#32
  let v222 : BitVec 32 := Scalar.select v221 c1_i32_129 c4_i32_127
  let v223 : BitVec 32 := Scalar.remsi v220 v222
  let c0_i32_131 : BitVec 32 := 0#32
  let v225 : BitVec 1 := Scalar.cmpi .slt v223 c0_i32_131
  let c0_i32_132 : BitVec 32 := 0#32
  let v226 : BitVec 1 := Scalar.cmpi .slt v222 c0_i32_132
  let v227 : BitVec 1 := Scalar.xori v225 v226
  let c0_i32_130 : BitVec 32 := 0#32
  let v224 : BitVec 1 := Scalar.cmpi .ne v223 c0_i32_130
  let v228 : BitVec 1 := Scalar.andi v227 v224
  let v229 : BitVec 32 := Scalar.addi v223 v222
  let v230 : BitVec 32 := Scalar.select v228 v229 v223
  let c128_i32_133 : BitVec 32 := 128#32
  let v231 : BitVec 32 := Scalar.muli v230 c128_i32_133
  let c0_i32_137 : BitVec 32 := 0#32
  ![v231.toNat, 0]
def k0_off11 (d0 : Dev nD) (c1_i32_126 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v220 : BitVec 32 := Scalar.subi v2 c1_i32_126
  let c4_i32_127 : BitVec 32 := 4#32
  let c0_i32_128 : BitVec 32 := 0#32
  let v221 : BitVec 1 := Scalar.cmpi .eq c4_i32_127 c0_i32_128
  let c1_i32_129 : BitVec 32 := 1#32
  let v222 : BitVec 32 := Scalar.select v221 c1_i32_129 c4_i32_127
  let v223 : BitVec 32 := Scalar.remsi v220 v222
  let c0_i32_131 : BitVec 32 := 0#32
  let v225 : BitVec 1 := Scalar.cmpi .slt v223 c0_i32_131
  let c0_i32_132 : BitVec 32 := 0#32
  let v226 : BitVec 1 := Scalar.cmpi .slt v222 c0_i32_132
  let v227 : BitVec 1 := Scalar.xori v225 v226
  let c0_i32_130 : BitVec 32 := 0#32
  let v224 : BitVec 1 := Scalar.cmpi .ne v223 c0_i32_130
  let v228 : BitVec 1 := Scalar.andi v227 v224
  let v229 : BitVec 32 := Scalar.addi v223 v222
  let v230 : BitVec 32 := Scalar.select v228 v229 v223
  let c128_i32_140 : BitVec 32 := 128#32
  let v238 : BitVec 32 := Scalar.muli v230 c128_i32_140
  let v239 : Index := Scalar.indexCast v238
  let c0_141 : Index := 0#32
  ![v239.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x2 : Shape := ⟨2, ![512, 2]⟩
abbrev S8x256x512 : Shape := ⟨3, ![8, 256, 512]⟩
abbrev S512x8 : Shape := ⟨2, ![512, 8]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 87
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x2, .i32⟩
  | .hbm, ⟨3, _⟩ => ⟨S8x256x512, .f32⟩
  | .hbm, ⟨4, _⟩ => ⟨S512x8, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x8, .f32⟩
  | .hbm, ⟨9, _⟩ => ⟨S512x8, .f32⟩
  | .hbm, ⟨10, _⟩ => ⟨S512x8, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x8, .f32⟩
  | .hbm, ⟨15, _⟩ => ⟨S512x8, .f32⟩
  | .hbm, ⟨16, _⟩ => ⟨S512, .i32⟩
  | .hbm, ⟨17, _⟩ => ⟨S512x1, .i32⟩
  | .hbm, ⟨18, _⟩ => ⟨S512, .i32⟩
  | .hbm, ⟨19, _⟩ => ⟨S512x1, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x1, .i32⟩
  | .hbm, ⟨37, _⟩ => ⟨S512x2, .i32⟩
  | .hbm, ⟨38, _⟩ => ⟨S512, .f32⟩
  | .hbm, ⟨39, _⟩ => ⟨S512x1, .f32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S_, .i32⟩
  | .hbm, ⟨48, _⟩ => ⟨S512, .i32⟩
  | .hbm, ⟨49, _⟩ => ⟨S512, .i1⟩
  | .hbm, ⟨50, _⟩ => ⟨S_, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S512x1, .i32⟩
  | .hbm, ⟨55, _⟩ => ⟨S512x1, .i32⟩
  | .hbm, ⟨56, _⟩ => ⟨S512x2, .i32⟩
  | .hbm, ⟨57, _⟩ => ⟨S512, .f32⟩
  | .hbm, ⟨58, _⟩ => ⟨S512x1, .f32⟩
  | .hbm, ⟨59, _⟩ => ⟨S512x1, .f32⟩
  | .hbm, ⟨60, _⟩ => ⟨S_, .i32⟩
  | .hbm, ⟨61, _⟩ => ⟨S512, .i32⟩
  | .hbm, ⟨62, _⟩ => ⟨S512, .i1⟩
  | .hbm, ⟨63, _⟩ => ⟨S_, .i32⟩
  | .hbm, ⟨64, _⟩ => ⟨S512, .i32⟩
  | .hbm, ⟨65, _⟩ => ⟨S512, .i32⟩
  | .hbm, ⟨66, _⟩ => ⟨S512, .i32⟩
  | .hbm, ⟨67, _⟩ => ⟨S512x1, .i32⟩
  | .hbm, ⟨68, _⟩ => ⟨S512x256x512, .f32⟩
  | .hbm, ⟨69, _⟩ => ⟨S512x512, .f32⟩
  | .hbm, ⟨70, _⟩ => ⟨S_, .i32⟩
  | .hbm, ⟨71, _⟩ => ⟨S512, .i32⟩
  | .hbm, ⟨72, _⟩ => ⟨S512, .i1⟩
  | .hbm, ⟨73, _⟩ => ⟨S_, .i32⟩
  | .hbm, ⟨74, _⟩ => ⟨S512, .i32⟩
  | .hbm, ⟨75, _⟩ => ⟨S512, .i32⟩
  | .hbm, ⟨76, _⟩ => ⟨S512, .i32⟩
  | .hbm, ⟨77, _⟩ => ⟨S512x1, .i32⟩
  | .hbm, ⟨78, _⟩ => ⟨S512x256x512, .f32⟩
  | .hbm, ⟨79, _⟩ => ⟨S512x512, .f32⟩
  | .hbm, ⟨80, _⟩ => ⟨S512x1, .f32⟩
  | .hbm, ⟨81, _⟩ => ⟨S512x512, .f32⟩
  | .hbm, ⟨82, _⟩ => ⟨S512x512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.SchedI.lean ====
/-
  The protocol of the four devices: closed forms of the device and offset chains, the row blocks of the two
  512x512 scratches, what each device computes and what each block holds, and the schedule of every cell.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

/-! ## The resource algebra: the pipeline library's copy and the one of this protocol's cells -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

/-- The device `k + 1` places after `c`: the target of `c`'s `k`-th signal and of its `k`-th transfer. -/
def nx (k : Fin 3) (c : Dev nD) : Dev nD := ⟨(c.val + (k.val + 1)) % 4, Nat.mod_lt _ (by decide)⟩
/-- The device `k + 1` places before `c`. -/
def pv (k : Fin 3) (c : Dev nD) : Dev nD := ⟨(c.val + (3 - k.val)) % 4, Nat.mod_lt _ (by decide)⟩

theorem pv_nx (k : Fin 3) (c : Dev nD) : pv k (nx k c) = c := by revert k c; decide
theorem nx_pv (k : Fin 3) (c : Dev nD) : nx k (pv k c) = c := by revert k c; decide
theorem nx_ne (k : Fin 3) (c : Dev nD) : nx k c ≠ c := by revert k c; decide
theorem pv_ne (k : Fin 3) (c : Dev nD) : pv k c ≠ c := by revert k c; decide

/-- Moving `k + 1` places on, as a permutation of the devices. -/
def turn (k : Fin 3) : Dev nD ≃ Dev nD := ⟨nx k, pv k, pv_nx k, nx_pv k⟩

theorem dev1_eq (c : Dev nD) : (⟨k0_dev1 c, k0_dev1_lt c⟩ : Dev nD) = nx 0 c := by revert c; decide +kernel
theorem dev2_eq (c : Dev nD) : (⟨k0_dev2 c, k0_dev2_lt c⟩ : Dev nD) = nx 1 c := by revert c; decide +kernel
theorem dev3_eq (c : Dev nD) : (⟨k0_dev3 c, k0_dev3_lt c⟩ : Dev nD) = nx 2 c := by revert c; decide +kernel
theorem dev4_eq (c : Dev nD) : (⟨k0_dev4 c, k0_dev4_lt c⟩ : Dev nD) = nx 0 c := by revert c; decide +kernel
theorem dev5_eq (c : Dev nD) : (⟨k0_dev5 c, k0_dev5_lt c⟩ : Dev nD) = nx 1 c := by revert c; decide +kernel
theorem dev6_eq (c : Dev nD) : (⟨k0_dev6 c, k0_dev6_lt c⟩ : Dev nD) = nx 2 c := by revert c; decide +kernel

theorem off1_eq (c : Dev nD) (k : Fin 3) : k0_off1 c (BitVec.ofNat 32 (1 + k.val)) = ![0, 128 * (nx k c).val, 0] := by revert c k; decide +kernel
theorem off2_eq (c : Dev nD) (k : Fin 3) : k0_off2 c (BitVec.ofNat 32 (1 + k.val)) = ![1, 128 * (nx k c).val, 0] := by revert c k; decide +kernel
theorem off3_eq (c : Dev nD) (k : Fin 3) : k0_off3 c (BitVec.ofNat 32 (1 + k.val)) = ![128 * (nx k c).val, 0] := by revert c k; decide +kernel
theorem off6_eq (c : Dev nD) (k : Fin 3) : k0_off6 c (BitVec.ofNat 32 (1 + k.val)) = ![128 * (nx k c).val, 0] := by revert c k; decide +kernel
theorem off4_eq (c : Dev nD) : k0_off4 c = ![c.val] := by revert c; decide +kernel
theorem off5_eq (c : Dev nD) : k0_off5 c = ![128 * c.val, 0] := by revert c; decide +kernel
theorem off7_eq (c : Dev nD) : k0_off7 c = ![0, 128 * c.val, 0] := by revert c; decide +kernel
theorem off8_eq (c : Dev nD) : k0_off8 c = ![1, 128 * c.val, 0] := by revert c; decide +kernel
theorem off9_eq (c : Dev nD) (k : Fin 3) : k0_off9 c (BitVec.ofNat 32 (1 + k.val)) = ![(pv k c).val] := by revert c k; decide +kernel
theorem off10_eq (c : Dev nD) (k : Fin 3) : k0_off10 c (BitVec.ofNat 32 (1 + k.val)) = ![128 * (pv k c).val, 0] := by revert c k; decide +kernel
theorem off11_eq (c : Dev nD) (k : Fin 3) : k0_off11 c (BitVec.ofNat 32 (1 + k.val)) = ![128 * (pv k c).val, 0] := by revert c k; decide +kernel

/-! ## The memrefs, the row blocks and the cells -/

abbrev aM : Memref sig .tc .vmem S512x256 .f32 := Memref.whole cc0_stg0_0
abbrev rM : Memref sig .tc .vmem S256x8 .f32 := Memref.whole cc0_stg1_0
abbrev iM : Memref sig .tc .vmem S512x2 .i32 := Memref.whole cc0_stg2_0
abbrev eM : Memref sig .tc .vmem S2x256x512 .f32 := Memref.whole cc0_stg3_0
abbrev oM : Memref sig .tc .vmem S128x512 .f32 := Memref.whole cc0_stg4_0
abbrev xM : Memref sig .tc .vmem S2x512x256 .f32 := Memref.whole cc0_scratch0
abbrev bM : Memref sig .tc .vmem S512x512 .f32 := Memref.whole cc0_scratch1
abbrev gM : Memref sig .tc .vmem S512x512 .f32 := Memref.whole cc0_scratch2

theorem row_inb (j : Fin 4) : ∀ a, (![128 * j.val, 0] : Fin 2 → Nat) a + S128x512.size a ≤ S512x512.size a := by revert j; decide
theorem slab_inb (i : Fin 2) (j : Fin 4) : ∀ a, (![i.val, 128 * j.val, 0] : Fin 3 → Nat) a + S1x128x256.size a ≤ S2x512x256.size a := by revert i j; decide
theorem part_inb (j : Fin 4) : ∀ a, (![0, 128 * j.val, 0] : Fin 3 → Nat) a + S1x128x256.size a ≤ S1x512x256.size a := by revert j; decide

/-- Rows `128 j … 128 j + 127` of a 512x512 scratch. -/
abbrev rowR (j : Fin 4) : Rect S512x512 := Rect.unit (s := S512x512) ![128 * j.val, 0] S128x512.size (row_inb j)
/-- Those rows of the send scratch, and of the receive scratch. -/
abbrev bRow (j : Fin 4) : Memref sig .tc .vmem S128x512 .f32 := bM.slice (rowR j) (fun _ => rfl)
abbrev gRow (j : Fin 4) : Memref sig .tc .vmem S128x512 .f32 := gM.slice (rowR j) (fun _ => rfl)

abbrev barS : Sem sig := (SemArray.scalar (sig.barrier 0 rfl) : Sems sig S_).sem
def sendS (k : Fin 3) : DmaSem sig := ⟨5 + k.val, by have := k.isLt; show 5 + k.val < 12; omega⟩
def recvS (s : Fin 4) : DmaSem sig := ⟨8 + s.val, by have := s.isLt; show 8 + s.val < 12; omega⟩

abbrev barCell (c : Dev nD) : GSem nD τ sig := ((c : Thread nD τ), .reg barS)
abbrev sendCell (c : Dev nD) (k : Fin 3) : GSem nD τ sig := ((c : Thread nD τ), .dma (sendS k))
abbrev recvCell (c : Dev nD) (s : Dev nD) : GSem nD τ sig := ((c : Thread nD τ), .dma (recvS s))

theorem send0_eq : ((cc0_scratch3.slice (Rect.unit (s := S3) ![0] S1.size inb_S3_S1_0)).squeeze S_ squeezes_S1_S_).sem = sendS 0 := rfl
theorem send1_eq : ((cc0_scratch3.slice (Rect.unit (s := S3) ![1] S1.size inb_S3_S1_1)).squeeze S_ squeezes_S1_S_).sem = sendS 1 := rfl
theorem send2_eq : ((cc0_scratch3.slice (Rect.unit (s := S3) ![2] S1.size inb_S3_S1_2)).squeeze S_ squeezes_S1_S_).sem = sendS 2 := rfl
/-- The receive semaphore at a computed position. -/
theorem recv_eq (off : Fin 1 → Nat) (s : Dev nD) (h : off = ![s.val]) (inb : ∀ a, off a + S1.size a ≤ S4.size a) :
    ((cc0_scratch4.slice (Rect.unit (s := S4) off S1.size inb)).squeeze S_ squeezes_S1_S_).sem = recvS s := by
  subst h; revert s inb; decide

/-- The protocol's semaphores in one list: the barrier, the three send ones, the four receive ones. -/
abbrev csem : Fin 8 → SemLoc sig := fun
  | 0 => .reg barS | 1 => .dma (sendS 0) | 2 => .dma (sendS 1) | 3 => .dma (sendS 2)
  | 4 => .dma (recvS 0) | 5 => .dma (recvS 1) | 6 => .dma (recvS 2) | 7 => .dma (recvS 3)
/-- The seven scoped ones. -/
abbrev osem : Fin 7 → SemLoc sig := fun
  | 0 => .dma (sendS 0) | 1 => .dma (sendS 1) | 2 => .dma (sendS 2)
  | 3 => .dma (recvS 0) | 4 => .dma (recvS 1) | 5 => .dma (recvS 2) | 6 => .dma (recvS 3)
abbrev kcell (ck : Dev nD × Fin 8) : GSem nD τ sig := ((ck.1 : Thread nD τ), csem ck.2)
/-- The position of a receive semaphore, and of a send one, in the list. -/
def ri (s : Dev nD) : Fin 8 := ⟨4 + s.val, by have : s.val < 4 := s.isLt; omega⟩
def si (k : Fin 3) : Fin 8 := ⟨1 + k.val, by have := k.isLt; omega⟩

theorem kcell_recv (c s : Dev nD) : kcell (c, ri s) = recvCell c s := by
  have : csem (ri s) = .dma (recvS s) := by revert s; decide
  show ((c : Thread nD τ), csem (ri s)) = _; rw [this]
theorem kcell_send (c : Dev nD) (k : Fin 3) : kcell (c, si k) = sendCell c k := by
  have : csem (si k) = .dma (sendS k) := by revert k; decide
  show ((c : Thread nD τ), csem (si k)) = _; rw [this]

/-- A semaphore's position in the list, `8` for the others. -/
def code : SemLoc sig → ℕ
  | .reg _ => 0
  | .dma q => if q.val < 5 then 8 else q.val - 4

theorem code_send (k : Fin 3) : code (.dma (sendS k)) = 1 + k.val := by revert k; decide
theorem code_recv (s : Dev nD) : code (.dma (recvS s)) = 4 + s.val := by revert s; decide

/-- The credit of one block's transfer. -/
abbrev N : ℕ := (gRow 0).view.dmaCredit
theorem N_pos : 0 < N := View.dmaCredit_pos _ (by decide)

/-! ## Contents -/

section Contents
variable (c : Dev nD)

/-- What the four inputs' staging buffers hold once fetched. -/
def xs : (cc0_stg0_0 : Ref sig .tc).ty.Contents (Elt F) := (win0_0.blk t0_0).view.read (Elt F) ((s₀ m ρ).mem ((c : Thread nD τ).loc main_arg0))
def ws : (cc0_stg1_0 : Ref sig .tc).ty.Contents (Elt F) := (win0_1.blk t0_0).view.read (Elt F) ((s₀ m ρ).mem ((c : Thread nD τ).loc main_arg1))
def is : (cc0_stg2_0 : Ref sig .tc).ty.Contents (Elt F) := (win0_2.blk t0_0).view.read (Elt F) ((s₀ m ρ).mem ((c : Thread nD τ).loc main_arg2))
def es : (cc0_stg3_0 : Ref sig .tc).ty.Contents (Elt F) := (win0_3.blk t0_0).view.read (Elt F) ((s₀ m ρ).mem ((c : Thread nD τ).loc main_arg3))

/-- The device's number as the kernel computes it. -/
def num : BitVec 32 := Scalar.remsi (Scalar.divsi (Dev.word c) 1#32) 4#32

/-- The weighted tokens for the device's two experts. -/
def xw0 : FVec F S1x512x256 .f32 :=
  k0_pay10 (num c) (k0_pay2 (xs m ρ c)) (k0_pay3 (xs m ρ c) (ws m ρ c)) (iota .tc S512x8 32 [1] iota_S512x8_d1_w32)
    (k0_pay5 (F := F) (is m ρ c)) (k0_pay6 (F := F) (is m ρ c)) (k0_pay7 (xs m ρ c) (ws m ρ c) (is m ρ c)) (k0_pay8 (xs m ρ c) (ws m ρ c) (is m ρ c))
def xw1 : FVec F S1x512x256 .f32 :=
  k0_pay11 (num c) (k0_pay2 (xs m ρ c)) (k0_pay3 (xs m ρ c) (ws m ρ c)) (iota .tc S512x8 32 [1] iota_S512x8_d1_w32)
    (k0_pay5 (F := F) (is m ρ c)) (k0_pay6 (F := F) (is m ρ c)) (k0_pay7 (xs m ρ c) (ws m ρ c) (is m ρ c)) (k0_pay8 (xs m ρ c) (ws m ρ c) (is m ρ c))
/-- Their rows of block `j`. -/
def xr0 (j : Fin 4) : FVec F S1x128x256 .f32 := VecWindow.window (s := S1x512x256) (xw0 m ρ c) ![0, 128 * j.val, 0] S1x128x256.size (part_inb j)
def xr1 (j : Fin 4) : FVec F S1x128x256 .f32 := VecWindow.window (s := S1x512x256) (xw1 m ρ c) ![0, 128 * j.val, 0] S1x128x256.size (part_inb j)
/-- The two experts' weights. -/
def w0 : FVec F S256x512 .f32 := k0_pay12 (VecWindow.window (s := S2x256x512) (es m ρ c) ![0, 0, 0] S1x256x512.size inb_S2x256x512_S1x256x512_0_0_0)
def w1 : FVec F S256x512 .f32 := k0_pay13 (VecWindow.window (s := S2x256x512) (es m ρ c) ![1, 0, 0] S1x256x512.size inb_S2x256x512_S1x256x512_1_0_0)
/-- What the device computes for the rows of block `j`. -/
def chunk (j : Fin 4) : FVec F S128x512 .f32 := k0_pay14 (w0 m ρ c) (w1 m ρ c) (xr0 m ρ c j) (xr1 m ρ c j)

/-- The kernel's result on the device: its own product and the three received ones. -/
def outAt : FVec F S128x512 .f32 :=
  k0_pay1 (k0_pay19 (k0_pay18 (w0 m ρ c) (w1 m ρ c) (k0_pay17 (xr0 m ρ c c)) (constant S128x512 .f32 0x00000000#32) (xr1 m ρ c c)
    (chunk m ρ (pv 0 c) c)) (chunk m ρ (pv 1 c) c)) (chunk m ρ (pv 2 c) c)

end Contents

/-- A 512x512 array given by its four row blocks. -/
def rowFn {α : Type} (g : Fin 4 → S128x512.Idx → α) : S512x512.Idx → α := fun i =>
  g ⟨(i 0).val / 128, by have : (i 0).val < 512 := (i 0).isLt; omega⟩ (ix2 ⟨(i 0).val % 128, Nat.mod_lt _ (by decide)⟩ (i 1))

theorem rowFn_emb {α : Type} (g : Fin 4 → S128x512.Idx → α) (j : Fin 4) (x : (rowR j).shape.Idx) : rowFn g ((rowR j).emb x) = g j x := by
  have h0 : ((rowR j).emb x 0).val = 128 * j.val + 1 * (x 0).val := rfl
  have h1 : ((rowR j).emb x 1).val = 0 + 1 * (x 1).val := rfl
  have hx : (x 0).val < 128 := (x 0).isLt
  unfold rowFn
  have hj : (⟨((rowR j).emb x 0).val / 128, by have : ((rowR j).emb x 0).val < 512 := ((rowR j).emb x 0).isLt; omega⟩ : Fin 4) = j :=
    Fin.ext (by show ((rowR j).emb x 0).val / 128 = j.val; omega)
  rw [hj]
  refine congrArg (g j) (funext fun a => ?_)
  match a with
  | ⟨0, _⟩ => exact Fin.ext (by show ((rowR j).emb x 0).val % 128 = (x 0).val; omega)
  | ⟨1, _⟩ => exact Fin.ext (by show ((rowR j).emb x 1).val = (x 1).val; omega)

/-- The send scratch of `c` once filled, and the receive scratch of `c` once every block landed. -/
def sent (c : Dev nD) : S512x512.Idx → Elt F .f32 := rowFn fun j => chunk m ρ c j
def got (c : Dev nD) : S512x512.Idx → Elt F .f32 := rowFn fun s => chunk m ρ s c

/-- The rows of block `j` of the send scratch of `c`, and of its receive scratch. -/
def bPts (c : Dev nD) (j : Fin 4) (f : Buf (Elt F) ((bRow j).view.loc (c : Thread nD τ))) : sProp 𝕄 :=
  (bRow j).view.loc (c : Thread nD τ) ↦[(bRow j).view.set]{fullShare} f
def gPts (c : Dev nD) (j : Fin 4) (f : Buf (Elt F) ((gRow j).view.loc (c : Thread nD τ))) : sProp 𝕄 :=
  (gRow j).view.loc (c : Thread nD τ) ↦[(gRow j).view.set]{fullShare} f

omit [FloatOps F] in
instance bPts_storable (c : Dev nD) (j) (f) : BI.Storable (upEmb : UEmb _ 𝕄) (bPts (F := F) c j f) := by unfold bPts; infer_instance
omit [FloatOps F] in
instance gPts_storable (c : Dev nD) (j) (f) : BI.Storable (upEmb : UEmb _ 𝕄) (gPts (F := F) c j f) := by unfold gPts; infer_instance

omit [FloatOps F] in
/-- Contents that agree with a row-block array on the block: the block is held at that array. -/
theorem bPts_of (c : Dev nD) (j : Fin 4) (f : Buf (Elt F) ((bRow j).view.loc (c : Thread nD τ))) (w : S128x512.Idx → Elt F .f32) (g : Fin 4 → S128x512.Idx → Elt F .f32)
    (h : g j = w) : bPts (F := F) c j ((bRow j).view.write (Elt F) f w Finset.univ) = bPts c j (rowFn g) := by
  unfold bPts
  refine pointsTo_congr fun i hi => ?_
  obtain ⟨x, -, rfl⟩ := Finset.mem_map.mp hi
  rw [View.write_emb_of_mem _ _ (Finset.mem_univ _), ← h]
  exact (rowFn_emb g j x).symm
omit [FloatOps F] in
theorem gPts_of (c : Dev nD) (j : Fin 4) (f : Buf (Elt F) ((gRow j).view.loc (c : Thread nD τ))) (w : S128x512.Idx → Elt F .f32) (g : Fin 4 → S128x512.Idx → Elt F .f32)
    (h : g j = w) : gPts (F := F) c j ((gRow j).view.write (Elt F) f w Finset.univ) = gPts c j (rowFn g) := by
  unfold gPts
  refine pointsTo_congr fun i hi => ?_
  obtain ⟨x, -, rfl⟩ := Finset.mem_map.mp hi
  rw [View.write_emb_of_mem _ _ (Finset.mem_univ _), ← h]
  exact (rowFn_emb g j x).symm
omit [FloatOps F] in
theorem bRow_read (j : Fin 4) (g : Fin 4 → S128x512.Idx → Elt F .f32) : (bRow j).view.read (Elt F) (rowFn g) = g j := funext fun x => rowFn_emb g j x

/-! ## The schedule -/

/-- What the signal `k` of device `pv k c` hands device `c`: the rows of `c`'s block of that device's receive scratch,
    and that the device is at the first round of the cell `c`'s transfer credits. -/
def barPay (c : Dev nD) (k : Fin 3) : sProp 𝕄 := iprop((∃ f, gPts (pv k c) c f) ∗ reached ER (recvCell (pv k c) c) 0)
/-- The landed block of device `s` in `c`'s receive scratch. -/
def recvPay (c s : Dev nD) : sProp 𝕄 := gPts c s (got m ρ c)
/-- The rows a transfer read, back. -/
def sendPay (c : Dev nD) (k : Fin 3) : sProp 𝕄 := bPts c (nx k c) (sent m ρ c)

def dutiesOf (c : Dev nD) : ℕ → Finset (Fin 3)
  | 0 => Finset.univ
  | 1 | 2 | 3 => {0}
  | 4 => if c.val = 0 then ∅ else {0}
  | 5 => if c.val = 1 then ∅ else {0}
  | 6 => if c.val = 2 then ∅ else {0}
  | 7 => if c.val = 3 then ∅ else {0}
  | _ => ∅
def payOf (c : Dev nD) (d : Fin 3) : ℕ → sProp 𝕄
  | 0 => barPay c d
  | 1 => sendPay m ρ c 0 | 2 => sendPay m ρ c 1 | 3 => sendPay m ρ c 2
  | 4 => recvPay m ρ c 0 | 5 => recvPay m ρ c 1 | 6 => recvPay m ρ c 2 | 7 => recvPay m ρ c 3
  | _ => iprop(emp)

instance payOf_storable (c : Dev nD) (d : Fin 3) (n : ℕ) : BI.Storable (upEmb : UEmb _ 𝕄) (payOf (F := F) m ρ c d n) := by
  unfold payOf barPay recvPay sendPay
  split <;> infer_instance

/-- One round: a barrier cell has three duties of one unit, a send cell and a receive cell from another device one duty
    of a block's credit. -/
def sched : Rounds.Schedule (GSem nD τ sig) (Fin 3) 𝕄 where
  duties g r := if r = 0 ∧ g.1.2 = .tc then dutiesOf g.1.1 (code g.2) else ∅
  unitless _ := False
  amount g _ _ := if code g.2 = 0 then 1 else N
  payload g _ d := payOf m ρ g.1.1 d (code g.2)
  amount_pos g _ _ _ := by
    by_cases h : code g.2 = 0
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := payOf_storable m ρ g.1.1 d (code g.2)

section Sched
variable (c : Dev nD)

theorem dutiesOf_recv (s : Dev nD) (h : s ≠ c) : dutiesOf c (4 + s.val) = {0} := by revert c s; decide
theorem dutiesOf_self : dutiesOf c (4 + c.val) = ∅ := by revert c; decide
theorem dutiesOf_send (k : Fin 3) : dutiesOf c (1 + k.val) = {0} := by revert c k; decide

theorem duties_bar : (sched (F := F) m ρ).duties (barCell c) 0 = Finset.univ := by dsimp only [sched]; exact if_pos ⟨rfl, rfl⟩
theorem duties_send (k : Fin 3) : (sched (F := F) m ρ).duties (sendCell c k) 0 = {0} := by
  dsimp only [sched]; rw [if_pos ⟨rfl, rfl⟩, code_send, dutiesOf_send]
theorem duties_recv (s : Dev nD) (h : s ≠ c) : (sched (F := F) m ρ).duties (recvCell c s) 0 = {0} := by
  dsimp only [sched]; rw [if_pos ⟨rfl, rfl⟩, code_recv, dutiesOf_recv c s h]
theorem duties_later (g : GSem nD τ sig) : ∀ r, 1 ≤ r → (sched (F := F) m ρ).duties g r = ∅ :=
  fun r hr => by dsimp only [sched]; rw [if_neg fun h => by omega]
theorem duties_self : ∀ r, 0 ≤ r → (sched (F := F) m ρ).duties (recvCell c c) r = ∅ := fun r _ => by
  dsimp only [sched]; split
  · rw [code_recv, dutiesOf_self]
  · rfl

theorem amount_bar (d : Fin 3) : (sched (F := F) m ρ).amount (barCell c) 0 d = 1 := by dsimp only [sched]; exact if_pos rfl
theorem amount_send (k d : Fin 3) : (sched (F := F) m ρ).amount (sendCell c k) 0 d = N := by
  dsimp only [sched]; rw [code_send, if_neg (by omega)]
theorem amount_recv (s : Dev nD) (d : Fin 3) : (sched (F := F) m ρ).amount (recvCell c s) 0 d = N := by
  dsimp only [sched]; rw [code_recv, if_neg (by omega)]

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (sched (F := F) m ρ).expect (sendCell c k) 0 = N := by
  unfold Schedule.expect Schedule.amountOf; rw [duties_send, Finset.sum_singleton, amount_send]
theorem expect_recv (s : Dev nD) (h : s ≠ c) : (sched (F := F) m ρ).expect (recvCell c s) 0 = N := by
  unfold Schedule.expect Schedule.amountOf; rw [duties_recv m ρ c s h, Finset.sum_singleton, amount_recv]

theorem payload_bar (d : Fin 3) : (sched (F := F) m ρ).payload (barCell c) 0 d = barPay c d := rfl
theorem payload_send (k d : Fin 3) : (sched (F := F) m ρ).payload (sendCell c k) 0 d = sendPay m ρ c k := by
  dsimp only [sched]; rw [code_send]; fin_cases k <;> rfl
theorem payload_recv (s : Dev nD) (d : Fin 3) : (sched (F := F) m ρ).payload (recvCell c s) 0 d = recvPay m ρ c s := by
  dsimp only [sched]; rw [code_recv]
  have : ∀ s : Fin 4, payOf m ρ c d (4 + s.val) = recvPay m ρ c s := fun s => by fin_cases s <;> rfl
  exact this s

/-- What a wait for a cell's whole round brings. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_univ_eq_bigSepL [0, 1, 2] (by decide) (by decide)]; rfl
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (s : Dev nD) (h : s ≠ c) : bigSep ((sched (F := F) m ρ).duties (recvCell c s) 0 \ ∅) (fun d => (sched (F := F) m ρ).payload (recvCell c s) 0 d) = recvPay m ρ c s := by
  rw [Finset.sdiff_empty, duties_recv m ρ c s h, bigSep_singleton, payload_recv]

end Sched

/-! ## What each device owes at launch; the levels -/

/-- The credits a device's three transfers owe the devices after it, the last transfer first. -/
def O₁ (c : Dev nD) : CellTallies nD τ sig Unit := 0 + tallyAt (recvCell (nx 2 c) c) () N
def O₂ (c : Dev nD) : CellTallies nD τ sig Unit := O₁ c + tallyAt (recvCell (nx 1 c) c) () N
def O₃ (c : Dev nD) : CellTallies nD τ sig Unit := O₂ c + tallyAt (recvCell (nx 0 c) c) () N
/-- And its three signals. -/
def O₄ (c : Dev nD) : CellTallies nD τ sig Unit := O₃ c + tallyAt (barCell (nx 2 c)) () 1
def O₅ (c : Dev nD) : CellTallies nD τ sig Unit := O₄ c + tallyAt (barCell (nx 1 c)) () 1
def O₀ (c : Dev nD) : CellTallies nD τ sig Unit := O₅ c + tallyAt (barCell (nx 0 c)) () 1

def L (g : GSem nD τ sig) : Finset Unit := if g.1.2 = .tc then {()} else ∅
/-- Barrier cells at 1, receive cells at 2, everything else (staging, send) at 0. -/
def lv (g : GSem nD τ sig) (_ : Unit) : ℕ := if code g.2 = 0 then 1 else if 4 ≤ code g.2 ∧ code g.2 < 8 then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} {O : CellTallies nD τ sig Unit} (h : 0 < (O + tallyAt g' () n) g u) : 0 < O g u ∨ g = g' := by
  rw [Pi.add_apply, Finsupp.add_apply, tallyAt_apply] at h
  by_cases hg : g = g'
  · exact Or.inr hg
  · rw [if_neg (fun h' => hg h'.1), Nat.add_zero] at h; exact Or.inl h

theorem O₃_pos {c : Dev nD} {g : GSem nD τ sig} {u : Unit} (h : 0 < O₃ c g u) : ∃ k : Fin 3, g = recvCell (nx k c) c := by
  rcases tally_pos h with h | h
  · rcases tally_pos h with h | h
    · rcases tally_pos h with h | h
      · exact absurd h (Nat.lt_irrefl 0)
      · exact ⟨2, h⟩
    · exact ⟨1, h⟩
  · exact ⟨0, h⟩
theorem O₀_pos {c : Dev nD} {g : GSem nD τ sig} {u : Unit} (h : 0 < O₀ c g u) : (∃ k : Fin 3, g = recvCell (nx k c) c) ∨ ∃ k : Fin 3, g = barCell (nx k c) := by
  rcases tally_pos h with h | h
  · rcases tally_pos h with h | h
    · rcases tally_pos h with h | h
      · exact Or.inl (O₃_pos h)
      · exact Or.inr ⟨2, h⟩
    · exact Or.inr ⟨1, h⟩
  · exact Or.inr ⟨0, h⟩

theorem lv_recv (c s : Dev nD) : lv (recvCell c s) () = 2 := by
  have : s.val < 4 := s.isLt
  dsimp only [lv]; rw [code_recv, if_neg (by omega), if_pos (by omega)]

theorem lv_bar (c : Dev nD) : lv (barCell c) () = 1 := if_pos rfl

/-- Staging cells (and send cells) are below everything owed. -/
theorem mayWait_low (c : Dev nD) (q : DmaSem sig) (hq : ¬ (4 ≤ code (.dma q) ∧ code (.dma q) < 8)) (hq' : code (.dma q) ≠ 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [if_neg hq', if_neg hq])
      (fun g u hg => by
        rcases O₀_pos hg with ⟨k, rfl⟩ | ⟨k, rfl⟩
        · rw [lv_recv]; decide
        · rw [lv_bar]; decide)
  · rw [MayWait_zero]; iintro -; iempintro

/-- At its barrier wait a device owes receive credits only, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨k, rfl⟩ := O₃_pos hg; exact Finset.mem_singleton_self _)
    (fun p hp => by rw [Finset.mem_singleton.mp hp]; exact (lv_bar c).le)
    (fun g u hg => by obtain ⟨k, rfl⟩ := O₃_pos hg; rw [lv_recv]; decide)

end Cert.KernelIdeal.Moe

end
-- ==== Proof.BodyI.lean ====
/-
  The kernel's body on one device, executed from what the device starts with to what it leaves.
-/
module

public import proofs.«01_k».proof.Proof.SchedI
public import Idealize.ShloMosaic.Lib.Ring
public import Idealize.ShloMosaic.Lib.Pipeline.Value

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the four devices, the three steps and the eight cells -/

theorem pv_eq_nx0 (c : Dev nD) : pv 2 c = nx 0 c := by revert c; decide
theorem pv_eq_nx1 (c : Dev nD) : pv 1 c = nx 1 c := by revert c; decide
theorem pv_eq_nx2 (c : Dev nD) : pv 0 c = nx 2 c := by revert c; decide

omit [FloatOps F] in
/-- The four devices are the three after `c` and `c`; -/
theorem bigSep_nx (c : Dev nD) (Φ : Fin 4 → sProp 𝕄) : bigSep Finset.univ Φ = iprop(Φ (nx 0 c) ∗ Φ (nx 1 c) ∗ Φ (nx 2 c) ∗ Φ c) :=
  bigSep_univ_eq_bigSepL [nx 0 c, nx 1 c, nx 2 c, c] (by revert c; decide) (by revert c; decide) Φ
omit [FloatOps F] in
/-- and the three before `c` and `c`. -/
theorem bigSep_pv (c : Dev nD) (Φ : Fin 4 → sProp 𝕄) : bigSep Finset.univ Φ = iprop(Φ (pv 0 c) ∗ Φ (pv 1 c) ∗ Φ (pv 2 c) ∗ Φ c) :=
  bigSep_univ_eq_bigSepL [pv 0 c, pv 1 c, pv 2 c, c] (by revert c; decide) (by revert c; decide) Φ
omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
/-- A device's eight cells: its barrier, its three send ones, the receive ones from the three devices before it and from itself. -/
theorem bigSep_cells (c : Dev nD) (Φ : GSem nD τ sig → sProp 𝕄) : (bigSep Finset.univ fun k : Fin 8 => Φ (kcell (c, k)))
    = iprop(Φ (barCell c) ∗ Φ (sendCell c 0) ∗ Φ (sendCell c 1) ∗ Φ (sendCell c 2)
        ∗ Φ (recvCell c (pv 0 c)) ∗ Φ (recvCell c (pv 1 c)) ∗ Φ (recvCell c (pv 2 c)) ∗ Φ (recvCell c c)) := by
  rw [bigSep_univ_eq_bigSepL [0, si 0, si 1, si 2, ri (pv 0 c), ri (pv 1 c), ri (pv 2 c), ri c] (by revert c; decide) (by revert c; decide)]
  simp only [bigSepL_cons_cons, bigSepL_singleton, kcell_recv, kcell_send]
  rfl

/-! ## The scratches in row blocks -/

theorem mem_row (j : Fin 4) (i : S512x512.Idx) : i ∈ (rowR j).set ↔ (i 0).val / 128 = j.val := by
  rw [Rect.mem_set_unit]
  have h1 : (i 1).val < 512 := (i 1).isLt
  constructor
  · intro h
    have := h 0
    have h2 : 128 * j.val ≤ (i 0).val ∧ (i 0).val < 128 * j.val + 128 := this
    omega
  · intro h a
    match a with
    | ⟨0, _⟩ => show 128 * j.val ≤ (i 0).val ∧ (i 0).val < 128 * j.val + 128; omega
    | ⟨1, _⟩ => show 0 ≤ (i 1).val ∧ (i 1).val < 0 + 512; omega

theorem rows_disjoint (j j' : Fin 4) (h : j ≠ j') : Disjoint (rowR j).set (rowR j').set :=
  Finset.disjoint_left.mpr fun i hi hi' => h (Fin.ext (((mem_row j i).mp hi).symm.trans ((mem_row j' i).mp hi')))
theorem rows_cover : (Finset.univ : Finset (Fin 4)).biUnion (fun j => (rowR j).set) = Finset.univ := by
  ext i
  have h0 : (i 0).val < 512 := (i 0).isLt
  simp only [Finset.mem_biUnion, Finset.mem_univ, true_and, iff_true]
  exact ⟨⟨(i 0).val / 128, by omega⟩, (mem_row _ i).mpr rfl⟩

theorem bRow_set (j : Fin 4) : (bRow j).view.set = (rowR j).set := by
  show ((View.whole cc0_scratch1).slice (rowR j)).set = _; rw [View.set_slice]; exact Finset.map_refl
theorem gRow_set (j : Fin 4) : (gRow j).view.set = (rowR j).set := by
  show ((View.whole cc0_scratch2).slice (rowR j)).set = _; rw [View.set_slice]; exact Finset.map_refl

omit [FloatOps F] in
theorem bPts_eq (c : Dev nD) (j : Fin 4) (f : Buf (Elt F) ((c : Thread nD τ).loc cc0_scratch1)) :
    bPts c j f = ((((c : Thread nD τ).loc cc0_scratch1) ↦[(rowR j).set]{fullShare} f) : sProp 𝕄) := by
  unfold bPts; rw [bRow_set]
omit [FloatOps F] in
/-- A scratch held whole is held row block by row block, -/
theorem b_split (c : Dev nD) (f : Buf (Elt F) ((c : Thread nD τ).loc cc0_scratch1)) :
    ((((c : Thread nD τ).loc cc0_scratch1) ↦{fullShare} f) : sProp 𝕄) ⊢ bigSep Finset.univ fun j => bPts c j f := by
  rw [Ring.pointsTo_blocks (fun j : Fin 4 => (rowR j).set) rows_disjoint rows_cover]
  exact Entails.of_eq (congrArg (bigSep Finset.univ) (funext fun j => (bPts_eq c j f).symm))
omit [FloatOps F] in
/-- and the blocks, each at some contents, join to the scratch at some contents. -/
theorem b_join (c : Dev nD) (f₀ : Buf (Elt F) ((c : Thread nD τ).loc cc0_scratch1)) :
    (bigSep Finset.univ fun j => iprop(∃ f, bPts (F := F) c j f)) ⊢ iprop(∃ f : Buf (Elt F) ((c : Thread nD τ).loc cc0_scratch1), ((c : Thread nD τ).loc cc0_scratch1) ↦{fullShare} f) := by
  have e : (bigSep Finset.univ fun j => iprop(∃ f, bPts (F := F) c j f))
      = bigSep Finset.univ fun j => iprop(∃ f : Buf (Elt F) ((c : Thread nD τ).loc cc0_scratch1), ((c : Thread nD τ).loc cc0_scratch1) ↦[(rowR j).set]{fullShare} f) :=
    by simp only [bPts_eq]
  rw [e]
  exact Ring.pointsTo_blocks_join_exists (ℓ := (c : Thread nD τ).loc cc0_scratch1) (fun j : Fin 4 => (rowR j).set) rows_disjoint rows_cover f₀
omit [FloatOps F] in
theorem gPts_eq (c : Dev nD) (j : Fin 4) (f : Buf (Elt F) ((c : Thread nD τ).loc cc0_scratch2)) :
    gPts c j f = ((((c : Thread nD τ).loc cc0_scratch2) ↦[(rowR j).set]{fullShare} f) : sProp 𝕄) := by
  unfold gPts; rw [gRow_set]
omit [FloatOps F] in
/-- A scratch held whole is held row block by row block, -/
theorem g_split (c : Dev nD) (f : Buf (Elt F) ((c : Thread nD τ).loc cc0_scratch2)) :
    ((((c : Thread nD τ).loc cc0_scratch2) ↦{fullShare} f) : sProp 𝕄) ⊢ bigSep Finset.univ fun j => gPts c j f := by
  rw [Ring.pointsTo_blocks (fun j : Fin 4 => (rowR j).set) rows_disjoint rows_cover]
  exact Entails.of_eq (congrArg (bigSep Finset.univ) (funext fun j => (gPts_eq c j f).symm))
omit [FloatOps F] in
/-- and the blocks, each at some contents, join to the scratch at some contents. -/
theorem g_join (c : Dev nD) (f₀ : Buf (Elt F) ((c : Thread nD τ).loc cc0_scratch2)) :
    (bigSep Finset.univ fun j => iprop(∃ f, gPts (F := F) c j f)) ⊢ iprop(∃ f : Buf (Elt F) ((c : Thread nD τ).loc cc0_scratch2), ((c : Thread nD τ).loc cc0_scratch2) ↦{fullShare} f) := by
  have e : (bigSep Finset.univ fun j => iprop(∃ f, gPts (F := F) c j f))
      = bigSep Finset.univ fun j => iprop(∃ f : Buf (Elt F) ((c : Thread nD τ).loc cc0_scratch2), ((c : Thread nD τ).loc cc0_scratch2) ↦[(rowR j).set]{fullShare} f) :=
    by simp only [gPts_eq]
  rw [e]
  exact Ring.pointsTo_blocks_join_exists (ℓ := (c : Thread nD τ).loc cc0_scratch2) (fun j : Fin 4 => (rowR j).set) rows_disjoint rows_cover f₀

/-! ## The records every device holds -/

/-- The invariants of all cells under the names `K`, and that every cell reached its first round. -/
def records (K : Dev nD × Fin 8 → ℕ) : sProp 𝕄 :=
  iprop((bigSep Finset.univ fun ck : Dev nD × Fin 8 => cellInv ER (sched m ρ) (K ck) (kcell ck))
    ∗ bigSep Finset.univ fun ck : Dev nD × Fin 8 => reached ER (kcell ck) 0)

instance records_persistent (K : Dev nD × Fin 8 → ℕ) : BI.Persistent (records m ρ K) := by unfold records; infer_instance

theorem inv_at (K : Dev nD × Fin 8 → ℕ) (ck : Dev nD × Fin 8) : records m ρ K ⊢ cellInv ER (sched m ρ) (K ck) (kcell ck) := by
  have h : (bigSep Finset.univ fun ck : Dev nD × Fin 8 => (cellInv ER (sched m ρ) (K ck) (kcell ck) : sProp 𝕄)) ⊢ cellInv ER (sched m ρ) (K ck) (kcell ck) := bigSep_elim (Finset.mem_univ ck)
  unfold records; iintro ⟨H, -⟩
  iapply h; iexact H
theorem reached_at (K : Dev nD × Fin 8 → ℕ) (ck : Dev nD × Fin 8) : records m ρ K ⊢ reached ER (kcell ck) 0 := by
  have h : (bigSep Finset.univ fun ck : Dev nD × Fin 8 => (reached ER (kcell ck) 0 : sProp 𝕄)) ⊢ reached ER (kcell ck) 0 := bigSep_elim (Finset.mem_univ ck)
  unfold records; iintro ⟨-, H⟩
  iapply h; iexact H

theorem inv_bar (K : Dev nD × Fin 8 → ℕ) (c : Dev nD) : records m ρ K ⊢ cellInv ER (sched m ρ) (K (c, 0)) (barCell c) := inv_at m ρ K (c, 0)
theorem inv_send (K : Dev nD × Fin 8 → ℕ) (c : Dev nD) (k : Fin 3) : records m ρ K ⊢ cellInv ER (sched m ρ) (K (c, si k)) (sendCell c k) := by
  have h := inv_at m ρ K (c, si k); rwa [kcell_send] at h
theorem inv_recv (K : Dev nD × Fin 8 → ℕ) (c s : Dev nD) : records m ρ K ⊢ cellInv ER (sched m ρ) (K (c, ri s)) (recvCell c s) := by
  have h := inv_at m ρ K (c, ri s); rwa [kcell_recv] at h
theorem reached_bar (K : Dev nD × Fin 8 → ℕ) (c : Dev nD) : records m ρ K ⊢ reached ER (barCell c) 0 := reached_at m ρ K (c, 0)
theorem reached_send (K : Dev nD × Fin 8 → ℕ) (c : Dev nD) (k : Fin 3) : records m ρ K ⊢ reached ER (sendCell c k) 0 := by
  have h := reached_at m ρ K (c, si k); rwa [kcell_send] at h
theorem reached_recv (K : Dev nD × Fin 8 → ℕ) (c s : Dev nD) : records m ρ K ⊢ reached ER (recvCell c s) 0 := by
  have h := reached_at m ρ K (c, ri s); rwa [kcell_recv] at h

/-! ## One lemma per kind of step -/

abbrev 𝒱₀ : Variants := Variants.none

section Steps
variable (K : Dev nD × Fin 8 → ℕ) (c : Dev nD) {α : Type}

/-- The signal number `k`: the rows of the target's block of this device's receive scratch go with it. -/
theorem step_signal (k : Fin 3) (n : Dev nD) (hn : n = nx k c) (O : CellTallies nD τ sig Unit) (W : Waits sig Unit) {Q : α → sProp 𝕄} {kk : PUnit → Prog (TpuEff nD τ sig (Elt F) Λ₀ .tc) α} (f) :
    iprop(records m ρ K ∗ owes (c : Thread nD τ) (O + tallyAt (barCell (nx k c)) () 1) W ∗ dutyTok ER (barCell (nx k c)) 0 k ∗ gPts c (nx k c) f)
      ⊢ iprop((owes (c : Thread nD τ) O W -∗ wp frame (wpE (defs₀ (F := F)) 𝒱₀ (c : Thread nD τ) none) Set.univ (kk ⟨⟩) Q) -∗ wp frame (wpE (defs₀ (F := F)) 𝒱₀ (c : Thread nD τ) none) Set.univ (.op (.semSignal (n : Thread nD τ) barS (1#32 : BitVec 32).toInt) kk) Q) := by
  subst hn
  iintro ⟨#HR, HO, Ht, Hg⟩ Hk
  iapply (Rounds.wp_signal 𝒱₀ ER (sched m ρ) (c : Thread nD τ) none (dst := (nx k c : Thread nD τ)) (κ := K (nx k c, 0))
      (d := k) (by rw [duties_bar]; exact Finset.mem_univ _) ((amount_bar m ρ (nx k c) k).trans (by decide)) () O rfl)
    $$ [HO Ht Hg]
  · isplitr; · iapply (inv_bar m ρ K (nx k c)); iexact HR
    isplitl [HO]; · iexact HO
    isplitl [Ht]; · iexact Ht
    isplitl [Hg]
    · rw [payload_bar]; unfold barPay; rw [pv_nx]
      isplitl [Hg]; · iexists f; iexact Hg
      iapply (reached_recv m ρ K c (nx k c)); iexact HR
    · iapply (reached_bar m ρ K (nx k c)); iexact HR
  iexact Hk

/-- The transfer number `k`. -/
theorem step_send (k : Fin 3) (n : Dev nD) (hn : n = nx k c) (offS offD : Fin 2 → Nat) (inbS : ∀ a, offS a + S128x512.size a ≤ S512x512.size a)
    (inbD : ∀ a, offD a + S128x512.size a ≤ S512x512.size a) (hS : offS = ![128 * (nx k c).val, 0]) (hD : offD = ![128 * c.val, 0])
    (sS sV : DmaSem sig) (hsS : sS = sendS k) (hsV : sV = recvS c)
    {hsc : (gM.slice (Rect.unit (s := S512x512) offD S128x512.size inbD) (fun _ => rfl) : Memref sig (Dev.tc n : Thread nD τ).2.kind .vmem S128x512 .f32).view.ref.isScScratch = false}
    {hsrc : (bM.slice (Rect.unit (s := S512x512) offS S128x512.size inbS) (fun _ => rfl) : Memref sig .tc .vmem S128x512 .f32).view.WordExact}
    {hdst : (gM.slice (Rect.unit (s := S512x512) offD S128x512.size inbD) (fun _ => rfl) : Memref sig .tc .vmem S128x512 .f32).view.WordExact}
    {hsem : DmaTarget.Typed .vmem (.dma sV) (.remote (Dev.tc n : Thread nD τ) (gM.slice (Rect.unit (s := S512x512) offD S128x512.size inbD) (fun _ => rfl) : Memref sig .tc .vmem S128x512 .f32) (.dma sS) hsc)}
    (O : CellTallies nD τ sig Unit) (W : Waits sig Unit) {Q : α → sProp 𝕄} {kk : PUnit → Prog (TpuEff nD τ sig (Elt F) Λ₀ .tc) α} (fn) :
    iprop(records m ρ K ∗ bPts c (nx k c) (sent m ρ c) ∗ gPts (nx k c) c fn
        ∗ owes (c : Thread nD τ) (O + tallyAt (recvCell (nx k c) c) () N) W
        ∗ dutyTok ER (sendCell c k) 0 0 ∗ dutyTok ER (recvCell (nx k c) c) 0 0 ∗ reached ER (recvCell (nx k c) c) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (bM.slice (Rect.unit (s := S512x512) offS S128x512.size inbS) (fun _ => rfl) : Memref sig .tc .vmem S128x512 .f32)
              (.remote (Dev.tc n : Thread nD τ) (gM.slice (Rect.unit (s := S512x512) offD S128x512.size inbD) (fun _ => rfl) : Memref sig .tc .vmem S128x512 .f32) (.dma sS) hsc) (.dma sV) hsrc hdst hsem) kk) Q) := by
  subst hn hS hD hsS hsV
  iintro ⟨#HR, Hb, Hg, HO, Ht1, Ht2, #Hr⟩ Hk
  unfold bPts gPts
  iapply (Rounds.wp_send_pointsTo 𝒱₀ ER (sched m ρ) (c : Thread nD τ) none (κ₁ := K (c, si k)) (κ₂ := K (nx k c, ri c))
    (r₁ := 0) (r₂ := 0) (d₁ := 0) (d₂ := 0) (fd := fn)
    (by rw [duties_send]; exact Finset.mem_singleton_self _) (by rw [duties_recv m ρ _ _ (nx_ne k c).symm]; exact Finset.mem_singleton_self _)
    () () N rfl (amount_send m ρ c k 0) (amount_recv m ρ (nx k c) c 0) O rfl (W := W)
    (by rw [payload_send]; exact BI.Entails.refl _)
    (by
      rw [payload_recv]; unfold recvPay got
      exact Entails.of_eq (gPts_of (nx k c) c fn _ (fun s => chunk m ρ s (nx k c)) (bRow_read (nx k c) fun j => chunk m ρ c j).symm))) $$ [Hb Hg HO Ht1 Ht2]
  · isplitr; · iapply (inv_send m ρ K c k); iexact HR
    isplitr; · iapply (inv_recv m ρ K (nx k c) c); iexact HR
    isplitl [Hb]; · iexact Hb
    isplitl [Hg]; · iexact Hg
    isplitl [HO]; · iexact HO
    isplitl [Ht1]; · iexact Ht1
    isplitr; · iapply (reached_send m ρ K c k); iexact HR
    isplitl [Ht2]; · iexact Ht2
    iexact Hr
  iexact Hk

/-- The wait for the block of the device `k + 1` places before: it is in the receive scratch. -/
theorem step_recv (k : Fin 3) (off : Fin 2 → Nat) (inb : ∀ a, off a + S128x512.size a ≤ S512x512.size a) (sV : DmaSem sig) (hsV : sV = recvS (pv k c))
    (src : Memref sig .tc .vmem S128x512 .f32)
    {hsrc : src.view.WordExact} {hdst : (gM.slice (Rect.unit (s := S512x512) off S128x512.size inb) (fun _ => rfl) : Memref sig .tc .vmem S128x512 .f32).view.WordExact}
    (W : Waits sig Unit) {Q : α → sProp 𝕄} {kk : PUnit → Prog (TpuEff nD τ sig (Elt F) Λ₀ .tc) α} :
    iprop(records m ρ K ∗ cred (tallyAt (recvCell c (pv k c)) () N) ∗ owes (c : Thread nD τ) 0 W ∗ atPos ER (recvCell c (pv k c)) 0 ∅ 0)
      ⊢ iprop(((owes (c : Thread nD τ) 0 (insert (SemLoc.dma (recvS (pv k c)), ()) W) ∗ atPos ER (recvCell c (pv k c)) (0 + 1) ∅ 0 ∗ gPts c (pv k c) (got m ρ c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sV src (gM.slice (Rect.unit (s := S512x512) off S128x512.size inb) (fun _ => rfl) : Memref sig .tc .vmem S128x512 .f32) hsrc hdst) kk) Q) := by
  subst hsV
  iintro ⟨#HR, Hc, HO, Hat⟩ Hk
  iapply (Rounds.wp_wait_rest_token 𝒱₀ ER (sched m ρ) (c : Thread nD τ) none (κ := K (c, ri (pv k c)))
      (wpE_waitDma2_eq 𝒱₀ (c : Thread nD τ) none Set.univ) (Set.mem_univ _) () (O := 0) (W := W) (R := 0) (m := 0) (T := ∅)
      (by rw [Nat.zero_add, expect_recv m ρ c _ (pv_ne k c)]; rfl)) $$ [Hc HO Hat]
  · isplitr; · iapply (inv_recv m ρ K c (pv k c)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c (pv k c) (pv_ne k c))) $$ Hpay
  iapply Hk
  isplitl [HO]; · iexact HO
  isplitl [Hat]; · iexact Hat
  unfold recvPay; iexact Hp

/-- The wait for the transfer number `k` to have read its rows. -/
theorem step_sent (k : Fin 3) (off : Fin 2 → Nat) (inb : ∀ a, off a + S128x512.size a ≤ S512x512.size a) (sS : DmaSem sig) (hsS : sS = sendS k)
    (src : Memref sig .tc .vmem S128x512 .f32)
    {hsrc : src.view.WordExact} {hdst : (bM.slice (Rect.unit (s := S512x512) off S128x512.size inb) (fun _ => rfl) : Memref sig .tc .vmem S128x512 .f32).view.WordExact}
    (W : Waits sig Unit) {Q : α → sProp 𝕄} {kk : PUnit → Prog (TpuEff nD τ sig (Elt F) Λ₀ .tc) α} :
    iprop(records m ρ K ∗ cred (tallyAt (sendCell c k) () N) ∗ owes (c : Thread nD τ) 0 W ∗ atPos ER (sendCell c k) 0 ∅ 0)
      ⊢ iprop(((owes (c : Thread nD τ) 0 (insert (SemLoc.dma (sendS k), ()) W) ∗ atPos ER (sendCell c k) (0 + 1) ∅ 0 ∗ bPts c (nx k c) (sent m ρ c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src (bM.slice (Rect.unit (s := S512x512) off S128x512.size inb) (fun _ => rfl) : Memref sig .tc .vmem S128x512 .f32) hsrc hdst) kk) Q) := by
  subst hsS
  iintro ⟨#HR, Hc, HO, Hat⟩ Hk
  iapply (Rounds.wp_wait_rest_token 𝒱₀ ER (sched m ρ) (c : Thread nD τ) none (κ := K (c, si k))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iapply (inv_send m ρ K c k); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c k)) $$ Hpay
  iapply Hk
  isplitl [HO]; · iexact HO
  isplitl [Hat]; · iexact Hat
  unfold sendPay; iexact Hp

/-- The load of a landed block. -/
theorem step_load_g (s : Dev nD) (off : Fin 2 → Nat) (inb : ∀ a, off a + S128x512.size a ≤ S512x512.size a) (h : off = ![128 * s.val, 0])
    {hl : gM.view.LoadsAt (Rect.unit (s := S512x512) off S128x512.size inb).toLoadRect} {Q : α → sProp 𝕄} {kk : ((Rect.unit (s := S512x512) off S128x512.size inb).shape.Idx → Elt F .f32) → Prog (TpuEff nD τ sig (Elt F) Λ₀ .tc) α} :
    gPts c s (got m ρ c) ⊢ iprop((gPts c s (got m ρ c) -∗ wp frame (wpE (defs₀ (F := F)) 𝒱₀ (c : Thread nD τ) none) Set.univ (kk (chunk m ρ s c)) Q)
      -∗ wp frame (wpE (defs₀ (F := F)) 𝒱₀ (c : Thread nD τ) none) Set.univ (.op (.load gM (Rect.unit (s := S512x512) off S128x512.size inb).toLoadRect hl) kk) Q) := by
  subst h
  unfold gPts
  have hr : gM.view.readAt (Elt F) (rowR s).toLoadRect (got m ρ c) = chunk m ρ s c := funext fun x => rowFn_emb (fun s => chunk m ρ s c) s x
  iintro H Hk
  iapply (wp_load_rect 𝒱₀ (c : Thread nD τ) none Set.univ (m := gM) (r := rowR s) (S := (gRow s).view.set) (Finset.Subset.refl _)) $$ H
  iintro H
  ihave Hk' := Hk $$ H
  rw [← hr]
  iexact Hk'

/-- The unused load of a block of the send scratch before its store. -/
theorem step_load_b (j : Dev nD) (off : Fin 2 → Nat) (inb : ∀ a, off a + S128x512.size a ≤ S512x512.size a) (h : off = ![128 * j.val, 0]) (f)
    {hl : bM.view.LoadsAt (Rect.unit (s := S512x512) off S128x512.size inb).toLoadRect} {Q : α → sProp 𝕄} {p : Prog (TpuEff nD τ sig (Elt F) Λ₀ .tc) α} :
    bPts c j f ⊢ iprop((bPts c j f -∗ wp frame (wpE (defs₀ (F := F)) 𝒱₀ (c : Thread nD τ) none) Set.univ p Q) -∗ wp frame (wpE (defs₀ (F := F)) 𝒱₀ (c : Thread nD τ) none) Set.univ (.op (.load bM (Rect.unit (s := S512x512) off S128x512.size inb).toLoadRect hl) fun _ => p) Q) := by
  subst h
  unfold bPts
  iintro H Hk
  iapply (wp_load_rect 𝒱₀ (c : Thread nD τ) none Set.univ (m := bM) (r := rowR j) (S := (bRow j).view.set) (Finset.Subset.refl _)) $$ H
  iexact Hk

/-- The store of a block of the send scratch. -/
theorem step_store_b (j : Dev nD) (off : Fin 2 → Nat) (inb : ∀ a, off a + S128x512.size a ≤ S512x512.size a) (h : off = ![128 * j.val, 0]) (f) (w : FVec F S128x512 .f32) (hw : w = chunk m ρ c j)
    {hx : (bM.access (Rect.unit (s := S512x512) off S128x512.size inb)).Stores Finset.univ} {hm : (Finset.univ : Finset (Rect.unit (s := S512x512) off S128x512.size inb).shape.Idx) = Finset.univ ∨ ∀ a, (Rect.unit (s := S512x512) off S128x512.size inb).stride a = 1} {Q : α → sProp 𝕄} {kk : PUnit → Prog (TpuEff nD τ sig (Elt F) Λ₀ .tc) α} :
    bPts c j f ⊢ iprop((bPts c j (sent m ρ c) -∗ wp frame (wpE (defs₀ (F := F)) 𝒱₀ (c : Thread nD τ) none) Set.univ (kk ⟨⟩) Q) -∗ wp frame (wpE (defs₀ (F := F)) 𝒱₀ (c : Thread nD τ) none) Set.univ (.op (.store bM (Rect.unit (s := S512x512) off S128x512.size inb) w Finset.univ hx hm) kk) Q) := by
  subst h hw
  have e : bPts (F := F) c j (sent m ρ c) = bPts c j ((bRow j).view.write (Elt F) f (chunk m ρ c j) Finset.univ) :=
    (bPts_of c j f _ (fun j => chunk m ρ c j) rfl).symm
  rw [e]
  unfold bPts
  refine wp_store 𝒱₀ (c : Thread nD τ) none Set.univ (m := bM) (r := rowR j) (S := (bRow j).view.set) (Mk := Finset.univ) ?_
  exact Finset.Subset.refl _

/-- The weighted-token scratch after its two stores. -/
def xFill (f : (cc0_scratch0 : Ref sig .tc).ty.Contents (Elt F)) : (cc0_scratch0 : Ref sig .tc).ty.Contents (Elt F) :=
  VecWindow.put (s := S2x512x256) (VecWindow.put (s := S2x512x256) f ![0, 0, 0] S1x512x256.size (xw0 m ρ c)) ![1, 0, 0] S1x512x256.size (xw1 m ρ c)

omit [FloatOps F] in
theorem x_write (off : Fin 3 → Nat) (inb : ∀ a, off a + S1x512x256.size a ≤ S2x512x256.size a) (f : (cc0_scratch0 : Ref sig .tc).ty.Contents (Elt F)) (w : S1x512x256.Idx → Elt F .f32) :
    (xM.access (Rect.unit (s := S2x512x256) off S1x512x256.size inb)).write (Elt F) f w Finset.univ = VecWindow.put (s := S2x512x256) f off S1x512x256.size w :=
  (View.write_whole_slice_unit cc0_scratch0 off S1x512x256.size inb f w).trans (VecWindow.put_eq_updateSlice (s := S2x512x256) f _ _ inb w).symm

theorem xFill_read0 (f) (j : Fin 4) : VecWindow.window (s := S2x512x256) (xFill m ρ c f) ![0, 128 * j.val, 0] S1x128x256.size (slab_inb 0 j) = xr0 m ρ c j := by
  unfold xFill
  rw [VecWindow.window_put_of_disjoint _ _ _ _ _ _ _ 0 (by left; show 0 + 1 ≤ 1; decide), VecWindow.window_put_of_inside _ _ _ _ _ _ _ (by revert j; decide)]
  rfl
theorem xFill_read1 (f) (j : Fin 4) : VecWindow.window (s := S2x512x256) (xFill m ρ c f) ![1, 128 * j.val, 0] S1x128x256.size (slab_inb 1 j) = xr1 m ρ c j := by
  unfold xFill
  rw [VecWindow.window_put_of_inside _ _ _ _ _ _ _ (by revert j; decide)]
  rfl

/-- The two stores that fill the weighted-token scratch. -/
theorem step_fill0 (f : Buf (Elt F) ((c : Thread nD τ).loc cc0_scratch0)) {hx : (xM.access (Rect.unit (s := S2x512x256) ![0, 0, 0] S1x512x256.size inb_S2x512x256_S1x512x256_0_0_0)).Stores Finset.univ}
    {hm : (Finset.univ : Finset (Rect.unit (s := S2x512x256) ![0, 0, 0] S1x512x256.size inb_S2x512x256_S1x512x256_0_0_0).shape.Idx) = Finset.univ ∨ ∀ a, (Rect.unit (s := S2x512x256) ![0, 0, 0] S1x512x256.size inb_S2x512x256_S1x512x256_0_0_0).stride a = 1}
    {Q : α → sProp 𝕄} {kk : PUnit → Prog (TpuEff nD τ sig (Elt F) Λ₀ .tc) α} :
    ((((c : Thread nD τ).loc cc0_scratch0) ↦{fullShare} f) : sProp 𝕄)
      ⊢ iprop(((((c : Thread nD τ).loc cc0_scratch0) ↦{fullShare} VecWindow.put (s := S2x512x256) f ![0, 0, 0] S1x512x256.size (xw0 m ρ c)) -∗ wp frame (wpE (defs₀ (F := F)) 𝒱₀ (c : Thread nD τ) none) Set.univ (kk ⟨⟩) Q)
      -∗ wp frame (wpE (defs₀ (F := F)) 𝒱₀ (c : Thread nD τ) none) Set.univ (.op (.store xM (Rect.unit (s := S2x512x256) ![0, 0, 0] S1x512x256.size inb_S2x512x256_S1x512x256_0_0_0) (xw0 m ρ c) Finset.univ hx hm) kk) Q) := by
  iintro H Hk
  iapply (wp_store 𝒱₀ (c : Thread nD τ) none Set.univ (m := xM) (r := Rect.unit (s := S2x512x256) ![0, 0, 0] S1x512x256.size inb_S2x512x256_S1x512x256_0_0_0) (Mk := Finset.univ) (Finset.subset_univ _)) $$ H
  rw [x_write]
  iexact Hk
theorem step_fill1 (f : Buf (Elt F) ((c : Thread nD τ).loc cc0_scratch0)) {hx : (xM.access (Rect.unit (s := S2x512x256) ![1, 0, 0] S1x512x256.size inb_S2x512x256_S1x512x256_1_0_0)).Stores Finset.univ}
    {hm : (Finset.univ : Finset (Rect.unit (s := S2x512x256) ![1, 0, 0] S1x512x256.size inb_S2x512x256_S1x512x256_1_0_0).shape.Idx) = Finset.univ ∨ ∀ a, (Rect.unit (s := S2x512x256) ![1, 0, 0] S1x512x256.size inb_S2x512x256_S1x512x256_1_0_0).stride a = 1}
    {Q : α → sProp 𝕄} {kk : PUnit → Prog (TpuEff nD τ sig (Elt F) Λ₀ .tc) α} :
    ((((c : Thread nD τ).loc cc0_scratch0) ↦{fullShare} VecWindow.put (s := S2x512x256) f ![0, 0, 0] S1x512x256.size (xw0 m ρ c)) : sProp 𝕄)
      ⊢ iprop(((((c : Thread nD τ).loc cc0_scratch0) ↦{fullShare} xFill m ρ c f) -∗ wp frame (wpE (defs₀ (F := F)) 𝒱₀ (c : Thread nD τ) none) Set.univ (kk ⟨⟩) Q)
      -∗ wp frame (wpE (defs₀ (F := F)) 𝒱₀ (c : Thread nD τ) none) Set.univ (.op (.store xM (Rect.unit (s := S2x512x256) ![1, 0, 0] S1x512x256.size inb_S2x512x256_S1x512x256_1_0_0) (xw1 m ρ c) Finset.univ hx hm) kk) Q) := by
  unfold xFill
  iintro H Hk
  iapply (wp_store 𝒱₀ (c : Thread nD τ) none Set.univ (m := xM) (r := Rect.unit (s := S2x512x256) ![1, 0, 0] S1x512x256.size inb_S2x512x256_S1x512x256_1_0_0) (Mk := Finset.univ) (Finset.subset_univ _)) $$ H
  rw [x_write]
  iexact Hk

/-- The loads of a block of the weighted tokens, for either expert. -/
theorem step_load_x0 (j : Fin 4) (off : Fin 3 → Nat) (inb : ∀ a, off a + S1x128x256.size a ≤ S2x512x256.size a) (h : off = ![0, 128 * j.val, 0]) (f)
    {hl : xM.view.LoadsAt (Rect.unit (s := S2x512x256) off S1x128x256.size inb).toLoadRect} {Q : α → sProp 𝕄} {kk : ((Rect.unit (s := S2x512x256) off S1x128x256.size inb).shape.Idx → Elt F .f32) → Prog (TpuEff nD τ sig (Elt F) Λ₀ .tc) α} :
    ((((c : Thread nD τ).loc cc0_scratch0) ↦{fullShare} xFill m ρ c f) : sProp 𝕄) ⊢ iprop(((((c : Thread nD τ).loc cc0_scratch0) ↦{fullShare} xFill m ρ c f) -∗ wp frame (wpE (defs₀ (F := F)) 𝒱₀ (c : Thread nD τ) none) Set.univ (kk (xr0 m ρ c j)) Q)
      -∗ wp frame (wpE (defs₀ (F := F)) 𝒱₀ (c : Thread nD τ) none) Set.univ (.op (.load xM (Rect.unit (s := S2x512x256) off S1x128x256.size inb).toLoadRect hl) kk) Q) := by
  subst h
  rw [← xFill_read0 m ρ c f j]
  exact wp_load 𝒱₀ (c : Thread nD τ) none Set.univ (m := xM) (Finset.subset_univ _)
theorem step_load_x1 (j : Fin 4) (off : Fin 3 → Nat) (inb : ∀ a, off a + S1x128x256.size a ≤ S2x512x256.size a) (h : off = ![1, 128 * j.val, 0]) (f)
    {hl : xM.view.LoadsAt (Rect.unit (s := S2x512x256) off S1x128x256.size inb).toLoadRect} {Q : α → sProp 𝕄} {kk : ((Rect.unit (s := S2x512x256) off S1x128x256.size inb).shape.Idx → Elt F .f32) → Prog (TpuEff nD τ sig (Elt F) Λ₀ .tc) α} :
    ((((c : Thread nD τ).loc cc0_scratch0) ↦{fullShare} xFill m ρ c f) : sProp 𝕄) ⊢ iprop(((((c : Thread nD τ).loc cc0_scratch0) ↦{fullShare} xFill m ρ c f) -∗ wp frame (wpE (defs₀ (F := F)) 𝒱₀ (c : Thread nD τ) none) Set.univ (kk (xr1 m ρ c j)) Q)
      -∗ wp frame (wpE (defs₀ (F := F)) 𝒱₀ (c : Thread nD τ) none) Set.univ (.op (.load xM (Rect.unit (s := S2x512x256) off S1x128x256.size inb).toLoadRect hl) kk) Q) := by
  subst h
  rw [← xFill_read1 m ρ c f j]
  exact wp_load 𝒱₀ (c : Thread nD τ) none Set.univ (m := xM) (Finset.subset_univ _)

end Steps

end Cert.KernelIdeal.Moe

end
-- ==== Proof.PointI.lean ====
/-
  The kernel's one grid point on a device, and the library's body obligation.
-/
module

public import proofs.«01_k».proof.Proof.BodyI

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and leaves -/

/-- The positions of a device's eight cells at their first round. -/
def places (c : Dev nD) : sProp 𝕄 :=
  iprop(atPos ER (barCell c) 0 ∅ 0 ∗ atPos ER (sendCell c 0) 0 ∅ 0 ∗ atPos ER (sendCell c 1) 0 ∅ 0 ∗ atPos ER (sendCell c 2) 0 ∅ 0
    ∗ atPos ER (recvCell c (pv 0 c)) 0 ∅ 0 ∗ atPos ER (recvCell c (pv 1 c)) 0 ∅ 0 ∗ atPos ER (recvCell c (pv 2 c)) 0 ∅ 0 ∗ atPos ER (recvCell c c) 0 ∅ 0)
/-- The duty tokens of step `k` a device pays with. -/
def payToks (c : Dev nD) (k : Fin 3) : sProp 𝕄 :=
  iprop(dutyTok ER (barCell (nx k c)) 0 k ∗ dutyTok ER (sendCell c k) 0 0 ∗ dutyTok ER (recvCell (nx k c) c) 0 0)

def ghost (K : Dev nD × Fin 8 → ℕ) (c : Dev nD) : sProp 𝕄 :=
  iprop(records m ρ K ∗ places c ∗ payToks c 0 ∗ payToks c 1 ∗ payToks c 2)
/-- The credits of the waits that another device's step answers. -/
def creds (c : Dev nD) : sProp 𝕄 :=
  iprop(cred (tallyAt (barCell c) () 3) ∗ cred (tallyAt (recvCell c (pv 0 c)) () N) ∗ cred (tallyAt (recvCell c (pv 1 c)) () N) ∗ cred (tallyAt (recvCell c (pv 2 c)) () N))

def start (c : Dev nD) : sProp 𝕄 := iprop((∃ K, ghost m ρ K c) ∗ creds c ∗ levAts L lv)

/-- The three scratch buffers, each at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratches c)
/-- The eight cells closed. -/
def zeros (c : Dev nD) : sProp 𝕄 :=
  iprop(semVal (barCell c) 0 ∗ semVal (sendCell c 0) 0 ∗ semVal (sendCell c 1) 0 ∗ semVal (sendCell c 2) 0
    ∗ semVal (recvCell c (pv 0 c)) 0 ∗ semVal (recvCell c (pv 1 c)) 0 ∗ semVal (recvCell c (pv 2 c)) 0 ∗ semVal (recvCell c c) 0)
def Φ₁ (c : Dev nD) : sProp 𝕄 := iprop(scratches c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => is m ρ c
    | ⟨3, _⟩ => es m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
set_option maxRecDepth 4000 in
def bodyPost (c : Dev nD) : sProp 𝕄 :=
  iprop(Φ₁ c ∗ (dats m ρ 0 c).owesAt () t0_0.succ
    ∗ stg c cc0_stg0_0 (xs m ρ c) ∗ stg c cc0_stg1_0 (ws m ρ c) ∗ stg c cc0_stg2_0 (is m ρ c) ∗ stg c cc0_stg3_0 (es m ρ c)
    ∗ stg c cc0_stg4_0 (outAt m ρ c))

section Reads
omit [FloatOps F] in
theorem hz : (![0, 0] : Fin 2 → Nat) = fun _ => 0 := funext fun a => by fin_cases a <;> rfl
omit [FloatOps F] in
theorem read_a (f : (cc0_stg0_0 : Ref sig .tc).ty.Contents (Elt F)) (inb) :
    aM.view.readAt (Elt F) (Rect.unit (s := S512x256) ![0, 0] S512x256.size inb).toLoadRect f = f := Memref.readAt_unit_zero (Elt F) cc0_stg0_0 hz _ f
omit [FloatOps F] in
theorem read_r (f : (cc0_stg1_0 : Ref sig .tc).ty.Contents (Elt F)) (inb) :
    rM.view.readAt (Elt F) (Rect.unit (s := S256x8) ![0, 0] S256x8.size inb).toLoadRect f = f := Memref.readAt_unit_zero (Elt F) cc0_stg1_0 hz _ f
omit [FloatOps F] in
theorem read_i (f : (cc0_stg2_0 : Ref sig .tc).ty.Contents (Elt F)) (inb) :
    iM.view.readAt (Elt F) (Rect.unit (s := S512x2) ![0, 0] S512x2.size inb).toLoadRect f = f := Memref.readAt_unit_zero (Elt F) cc0_stg2_0 hz _ f
omit [FloatOps F] in
theorem read_e (i : Fin 2) (f : (cc0_stg3_0 : Ref sig .tc).ty.Contents (Elt F)) (inb) :
    eM.view.readAt (Elt F) (Rect.unit (s := S2x256x512) ![i.val, 0, 0] S1x256x512.size inb).toLoadRect f
      = VecWindow.window (s := S2x256x512) f ![i.val, 0, 0] S1x256x512.size inb := rfl
omit [FloatOps F] in
theorem write_o (f w : (cc0_stg4_0 : Ref sig .tc).ty.Contents (Elt F)) (inb) :
    (oM.access (Rect.unit (s := S128x512) ![0, 0] S128x512.size inb) : View sig .tc _ _ _).write (Elt F) f w Finset.univ = w :=
  Memref.write_access_unit_zero_univ (Elt F) cc0_stg4_0 hz _ f w
end Reads

set_option maxRecDepth 8000 in
set_option maxHeartbeats 4000000 in
/-- From what the device starts with, the body leaves the scratches and the eight cells at zero, and its result in the
    output's staging buffer. -/
theorem sound_body (c : Dev nD) (Kpost : PUnit → sProp 𝕄) :
    iprop(bodyPre m ρ c ∗ (bodyPost m ρ c -∗ Kpost ⟨⟩))
      ⊢ wp frame (wpE (defs₀ (F := F)) 𝒱₀ c none) Set.univ
        (cc0_body aM (Memref.isWhole_whole _) rM (Memref.isWhole_whole _) iM (Memref.isWhole_whole _) eM (Memref.isWhole_whole _) oM (Memref.isWhole_whole _)
          xM (Memref.isWhole_whole _) bM (Memref.isWhole_whole _) gM (Memref.isWhole_whole _) cc0_scratch3 cc0_scratch4) Kpost := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre Φ₀ start ghost places payToks creds scratches
  iintro ⟨⟨⟨⟨⟨%K, #HR, ⟨HaB, HaS0, HaS1, HaS2, HaR0, HaR1, HaR2, HaRc⟩, ⟨HtB0, HtS0, HtR0⟩, ⟨HtB1, HtS1, HtR1⟩, ⟨HtB2, HtS2, HtR2⟩⟩, ⟨HcB, HcR0, HcR1, HcR2⟩, #Hlev⟩,
    ⟨%fx, Hx⟩, ⟨%fb, Hb⟩, ⟨%fg, Hg⟩⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩, Hk⟩
  have h0 : g0 = xs m ρ c := by rw [hg0]; unfold Dat.before; rw [if_pos (fetch0_0 t0_0)]; rfl
  have h1 : g1 = ws m ρ c := by rw [hg1]; unfold Dat.before; rw [if_pos (fetch0_1 t0_0)]; rfl
  have h2 : g2 = is m ρ c := by rw [hg2]; unfold Dat.before; rw [if_pos (fetch0_2 t0_0)]; rfl
  have h3 : g3 = es m ρ c := by rw [hg3]; unfold Dat.before; rw [if_pos (fetch0_3 t0_0)]; rfl
  subst h0 h1 h2 h3
  unfold Dat.owesAt Pipeline.owesWithin
  icases Ho with ⟨%W, %hW, HO⟩
  rw [show (dats m ρ 0 c).owed t0_0.castSucc = O₀ c from rfl]
  ihave Hbs := ((b_split c fb).trans (Entails.of_eq (bigSep_nx c _))) $$ Hb
  icases Hbs with ⟨Hb0, Hb1, Hb2, Hbc⟩
  ihave Hgs := ((g_split c fg).trans (Entails.of_eq (bigSep_nx c _))) $$ Hg
  icases Hgs with ⟨Hg0, Hg1, Hg2, Hgc⟩
  unfold O₀ O₅ O₄
  iapply (step_signal m ρ K c 0 _ (dev1_eq c) _ W fg) $$ [HO HtB0 Hg0]
  · isplitr; · iexact HR
    isplitl [HO]; · iexact HO
    isplitl [HtB0] <;> iassumption
  iintro HO
  iapply (step_signal m ρ K c 1 _ (dev2_eq c) _ W fg) $$ [HO HtB1 Hg1]
  · isplitr; · iexact HR
    isplitl [HO]; · iexact HO
    isplitl [HtB1] <;> iassumption
  iintro HO
  iapply (step_signal m ρ K c 2 _ (dev3_eq c) _ W fg) $$ [HO HtB2 Hg2]
  · isplitr; · iexact HR
    isplitl [HO]; · iexact HO
    isplitl [HtB2] <;> iassumption
  iintro HO
  -- the gating, the two products' operands
  iapply (wp_load 𝒱₀ (c : Thread nD τ) none Set.univ (m := aM) (Finset.subset_univ _)) $$ H0; iintro H0
  rw [read_a]
  iapply (wp_load 𝒱₀ (c : Thread nD τ) none Set.univ (m := rM) (Finset.subset_univ _)) $$ H1; iintro H1
  rw [read_r]
  iapply (wp_load 𝒱₀ (c : Thread nD τ) none Set.univ (m := iM) (Finset.subset_univ _)) $$ H2; iintro H2
  rw [read_i]
  iapply (wp_load 𝒱₀ (c : Thread nD τ) none Set.univ (m := xM) (Finset.subset_univ _)) $$ Hx; iintro Hx
  iapply (step_fill0 m ρ c fx) $$ Hx; iintro Hx
  iapply (wp_load 𝒱₀ (c : Thread nD τ) none Set.univ (m := xM) (Finset.subset_univ _)) $$ Hx; iintro Hx
  iapply (step_fill1 m ρ c fx) $$ Hx; iintro Hx
  iapply (wp_load 𝒱₀ (c : Thread nD τ) none Set.univ (m := eM) (Finset.subset_univ _)) $$ H3; iintro H3
  iapply (wp_load 𝒱₀ (c : Thread nD τ) none Set.univ (m := eM) (Finset.subset_univ _)) $$ H3; iintro H3
  -- the barrier
  iapply (Rounds.wp_wait_rest_token 𝒱₀ ER (sched m ρ) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  rw [pv_eq_nx0 c, pv_eq_nx1 c, pv_eq_nx2 c]
  icases Hp with ⟨⟨⟨%f2, Hg2⟩, #Hr2⟩, ⟨⟨%f1, Hg1⟩, #Hr1⟩, ⟨%f0, Hg0⟩, #Hr0⟩
  unfold O₃ O₂ O₁
  -- the block of the device 1 places on
  iapply (step_load_x0 m ρ c (nx 0 c) _ _ (off1_eq c 0) fx) $$ Hx; iintro Hx
  iapply (step_load_x1 m ρ c (nx 0 c) _ _ (off2_eq c 0) fx) $$ Hx; iintro Hx
  iapply (step_load_b c (nx 0 c) _ _ (off3_eq c 0) fb) $$ Hb0; iintro Hb0
  iapply (step_store_b m ρ c (nx 0 c) _ _ (off3_eq c 0) fb _ rfl) $$ Hb0; iintro Hb0
  iapply (step_send m ρ K c 0 _ (dev4_eq c) _ _ _ _ (off6_eq c 0) (off5_eq c) _ _ send0_eq (recv_eq _ c (off4_eq c) _) _ _ f0) $$ [Hb0 Hg0 HO HtS0 HtR0]
  · isplitr; · iexact HR
    isplitl [Hb0]; · iexact Hb0
    isplitl [Hg0]; · iexact Hg0
    isplitl [HO]; · iexact HO
    isplitl [HtS0]; · iexact HtS0
    isplitl [HtR0]; · iexact HtR0
    iexact Hr0
  iintro ⟨HcS0, HO⟩
  -- the block of the device 2 places on
  iapply (step_load_x0 m ρ c (nx 1 c) _ _ (off1_eq c 1) fx) $$ Hx; iintro Hx
  iapply (step_load_x1 m ρ c (nx 1 c) _ _ (off2_eq c 1) fx) $$ Hx; iintro Hx
  iapply (step_load_b c (nx 1 c) _ _ (off3_eq c 1) fb) $$ Hb1; iintro Hb1
  iapply (step_store_b m ρ c (nx 1 c) _ _ (off3_eq c 1) fb _ rfl) $$ Hb1; iintro Hb1
  iapply (step_send m ρ K c 1 _ (dev5_eq c) _ _ _ _ (off6_eq c 1) (off5_eq c) _ _ send1_eq (recv_eq _ c (off4_eq c) _) _ _ f1) $$ [Hb1 Hg1 HO HtS1 HtR1]
  · isplitr; · iexact HR
    isplitl [Hb1]; · iexact Hb1
    isplitl [Hg1]; · iexact Hg1
    isplitl [HO]; · iexact HO
    isplitl [HtS1]; · iexact HtS1
    isplitl [HtR1]; · iexact HtR1
    iexact Hr1
  iintro ⟨HcS1, HO⟩
  -- the block of the device 3 places on
  iapply (step_load_x0 m ρ c (nx 2 c) _ _ (off1_eq c 2) fx) $$ Hx; iintro Hx
  iapply (step_load_x1 m ρ c (nx 2 c) _ _ (off2_eq c 2) fx) $$ Hx; iintro Hx
  iapply (step_load_b c (nx 2 c) _ _ (off3_eq c 2) fb) $$ Hb2; iintro Hb2
  iapply (step_store_b m ρ c (nx 2 c) _ _ (off3_eq c 2) fb _ rfl) $$ Hb2; iintro Hb2
  iapply (step_send m ρ K c 2 _ (dev6_eq c) _ _ _ _ (off6_eq c 2) (off5_eq c) _ _ send2_eq (recv_eq _ c (off4_eq c) _) _ _ f2) $$ [Hb2 Hg2 HO HtS2 HtR2]
  · isplitr; · iexact HR
    isplitl [Hb2]; · iexact Hb2
    isplitl [Hg2]; · iexact Hg2
    isplitl [HO]; · iexact HO
    isplitl [HtS2]; · iexact HtS2
    isplitl [HtR2]; · iexact HtR2
    iexact Hr2
  iintro ⟨HcS2, HO⟩
  -- its own block, and the three received ones
  iapply (step_load_x0 m ρ c c _ _ (off7_eq c) fx) $$ Hx; iintro Hx
  iapply (step_load_x1 m ρ c c _ _ (off8_eq c) fx) $$ Hx; iintro Hx
  iapply (step_recv m ρ K c 0 _ _ _ (recv_eq _ (pv 0 c) (off9_eq c 0) _) _ _) $$ [HcR0 HO HaR0]
  · isplitr; · iexact HR
    isplitl [HcR0]; · iexact HcR0
    isplitl [HO]; · iexact HO
    iexact HaR0
  iintro ⟨HO, HaR0, Hv0⟩
  iapply (step_load_g m ρ c (pv 0 c) _ _ (off11_eq c 0)) $$ Hv0; iintro Hv0
  iapply (step_recv m ρ K c 1 _ _ _ (recv_eq _ (pv 1 c) (off9_eq c 1) _) _ _) $$ [HcR1 HO HaR1]
  · isplitr; · iexact HR
    isplitl [HcR1]; · iexact HcR1
    isplitl [HO]; · iexact HO
    iexact HaR1
  iintro ⟨HO, HaR1, Hv1⟩
  iapply (step_load_g m ρ c (pv 1 c) _ _ (off11_eq c 1)) $$ Hv1; iintro Hv1
  iapply (step_recv m ρ K c 2 _ _ _ (recv_eq _ (pv 2 c) (off9_eq c 2) _) _ _) $$ [HcR2 HO HaR2]
  · isplitr; · iexact HR
    isplitl [HcR2]; · iexact HcR2
    isplitl [HO]; · iexact HO
    iexact HaR2
  iintro ⟨HO, HaR2, Hv2⟩
  iapply (step_load_g m ρ c (pv 2 c) _ _ (off11_eq c 2)) $$ Hv2; iintro Hv2
  iapply (wp_load 𝒱₀ (c : Thread nD τ) none Set.univ (m := oM) (Finset.subset_univ _)) $$ H4; iintro H4
  iapply (wp_store 𝒱₀ (c : Thread nD τ) none Set.univ (m := oM) (r := Rect.unit (s := S128x512) ![0, 0] S128x512.size inb_S128x512_S128x512_0_0) (Mk := Finset.univ) (Finset.subset_univ _)) $$ H4; iintro H4
  rw [write_o]
  iapply (step_sent m ρ K c 0 _ _ _ send0_eq _ _) $$ [HcS0 HO HaS0]
  · isplitr; · iexact HR
    isplitl [HcS0]; · iexact HcS0
    isplitl [HO]; · iexact HO
    iexact HaS0
  iintro ⟨HO, HaS0, Hb0⟩
  iapply (step_sent m ρ K c 1 _ _ _ send1_eq _ _) $$ [HcS1 HO HaS1]
  · isplitr; · iexact HR
    isplitl [HcS1]; · iexact HcS1
    isplitl [HO]; · iexact HO
    iexact HaS1
  iintro ⟨HO, HaS1, Hb1⟩
  iapply (step_sent m ρ K c 2 _ _ _ send2_eq _ _) $$ [HcS2 HO HaS2]
  · isplitr; · iexact HR
    isplitl [HcS2]; · iexact HcS2
    isplitl [HO]; · iexact HO
    iexact HaS2
  iintro ⟨HO, HaS2, Hb2⟩
  rw [wp_ret]
  -- every cell closes
  imod (Rounds.cell_close ER (sched m ρ) (Set.mem_univ (K (c, 0))) (fun h => h) (R := 0 + 1) (duties_later m ρ (barCell c))) $$ [HaB] with HaB
  · isplitr; · iapply (inv_bar m ρ K c); iexact HR
    iexact HaB
  imod (Rounds.cell_close ER (sched m ρ) (Set.mem_univ (K (c, si 0))) (fun h => h) (R := 0 + 1) (duties_later m ρ (sendCell c 0))) $$ [HaS0] with HaS0
  · isplitr; · iapply (inv_send m ρ K c 0); iexact HR
    iexact HaS0
  imod (Rounds.cell_close ER (sched m ρ) (Set.mem_univ (K (c, ri (pv 0 c)))) (fun h => h) (R := 0 + 1) (duties_later m ρ (recvCell c (pv 0 c)))) $$ [HaR0] with HaR0
  · isplitr; · iapply (inv_recv m ρ K c (pv 0 c)); iexact HR
    iexact HaR0
  imod (Rounds.cell_close ER (sched m ρ) (Set.mem_univ (K (c, si 1))) (fun h => h) (R := 0 + 1) (duties_later m ρ (sendCell c 1))) $$ [HaS1] with HaS1
  · isplitr; · iapply (inv_send m ρ K c 1); iexact HR
    iexact HaS1
  imod (Rounds.cell_close ER (sched m ρ) (Set.mem_univ (K (c, ri (pv 1 c)))) (fun h => h) (R := 0 + 1) (duties_later m ρ (recvCell c (pv 1 c)))) $$ [HaR1] with HaR1
  · isplitr; · iapply (inv_recv m ρ K c (pv 1 c)); iexact HR
    iexact HaR1
  imod (Rounds.cell_close ER (sched m ρ) (Set.mem_univ (K (c, si 2))) (fun h => h) (R := 0 + 1) (duties_later m ρ (sendCell c 2))) $$ [HaS2] with HaS2
  · isplitr; · iapply (inv_send m ρ K c 2); iexact HR
    iexact HaS2
  imod (Rounds.cell_close ER (sched m ρ) (Set.mem_univ (K (c, ri (pv 2 c)))) (fun h => h) (R := 0 + 1) (duties_later m ρ (recvCell c (pv 2 c)))) $$ [HaR2] with HaR2
  · isplitr; · iapply (inv_recv m ρ K c (pv 2 c)); iexact HR
    iexact HaR2
  imod (Rounds.cell_close ER (sched m ρ) (Set.mem_univ (K (c, ri c))) (fun h => h) (R := 0) (duties_self m ρ c)) $$ [HaRc] with HaRc
  · isplitr; · iapply (inv_recv m ρ K c c); iexact HR
    iexact HaRc
  imodintro
  iapply Hk
  unfold bodyPost Φ₁ Dat.owesAt Pipeline.owesWithin scratches zeros
  rw [show (dats m ρ 0 c).owed t0_0.succ = 0 from rfl]
  isplitl [Hx Hb0 Hb1 Hb2 Hbc Hv0 Hv1 Hv2 Hgc HaB HaS0 HaS1 HaS2 HaR0 HaR1 HaR2 HaRc]
  · isplitl [Hx Hb0 Hb1 Hb2 Hbc Hv0 Hv1 Hv2 Hgc]
    · isplitl [Hx]; · iexists _; iexact Hx
      isplitl [Hb0 Hb1 Hb2 Hbc]
      · iapply (b_join c fb)
        rw [bigSep_nx c]
        isplitl [Hb0]; · iexists _; iexact Hb0
        isplitl [Hb1]; · iexists _; iexact Hb1
        isplitl [Hb2]; · iexists _; iexact Hb2
        iexists _; iexact Hbc
      · iapply (g_join c fg)
        rw [bigSep_pv c]
        isplitl [Hv0]; · iexists _; iexact Hv0
        isplitl [Hv1]; · iexists _; iexact Hv1
        isplitl [Hv2]; · iexists _; iexact Hv2
        iexists _; iexact Hgc
    · isplitl [HaB]; · iexact HaB
      isplitl [HaS0]; · iexact HaS0
      isplitl [HaS1]; · iexact HaS1
      isplitl [HaS2]; · iexact HaS2
      isplitl [HaR0]; · iexact HaR0
      isplitl [HaR1]; · iexact HaR1
      isplitl [HaR2]; · iexact HaR2
      iexact HaRc
  isplitl [HO]
  · iexists (insert (SemLoc.dma (sendS 2), ()) (insert (SemLoc.dma (sendS 1), ()) (insert (SemLoc.dma (sendS 0), ())
      (insert (SemLoc.dma (recvS (pv 2 c)), ()) (insert (SemLoc.dma (recvS (pv 1 c)), ()) (insert (SemLoc.dma (recvS (pv 0 c)), ())
        (insert (SemLoc.reg barS, ()) W)))))))
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
        (cc0_body aM (Memref.isWhole_whole _) rM (Memref.isWhole_whole _) iM (Memref.isWhole_whole _) eM (Memref.isWhole_whole _) oM (Memref.isWhole_whole _)
          xM (Memref.isWhole_whole _) bM (Memref.isWhole_whole _) gM (Memref.isWhole_whole _) cc0_scratch3 cc0_scratch4) (fun _ => bodyPost m ρ c)
  iintro H
  iapply (sound_body m ρ c fun _ => bodyPost m ρ c)
  isplitl [H]; · iexact H
  iintro H; iexact H

end Cert.KernelIdeal.Moe

end
-- ==== Proof.RunI.lean ====
/-
  The launch: the cells funded, allocated and dealt to the devices, the credits each device starts with, and the
  run of the whole program.
-/
module

public import proofs.«01_k».proof.Proof.PointI
public import Idealize.ShloMosaic.Lib.Pipeline.CollectiveSegs

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens as minted -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro a b h
  have hc : ∀ k, code (csem k) = k.val := by decide
  exact Fin.ext (by rw [← hc a, ← hc b, h])

theorem kcell_injective : Function.Injective (kcell : Dev nD × Fin 8 → GSem nD τ sig) := by
  rintro ⟨c, k⟩ ⟨c', k'⟩ h
  obtain rfl : c = c' := congrArg (fun g : GSem nD τ sig => g.1.1) h
  exact congrArg (Prod.mk c) (csem_injective (congrArg Prod.snd h))
def allCells : Finset (GSem nD τ sig) := Finset.univ.map ⟨kcell, kcell_injective⟩

/-- The duty `i` of step `k` among a device's own cells: of its barrier, of its send cell, of its receive cell. -/
def tokSem (c : Dev nD) (k i : Fin 3) : SemLoc sig × Fin 3 := match i with
  | 0 => (.reg barS, k) | 1 => (.dma (sendS k), 0) | 2 => (.dma (recvS (pv k c)), 0)
abbrev tokOf (x : Dev nD × Fin 3 × Fin 3) : GSem nD τ sig × ℕ × Fin 3 :=
  (((x.1 : Thread nD τ), (tokSem x.1 x.2.1 x.2.2).1), 0, (tokSem x.1 x.2.1 x.2.2).2)

theorem tokSem_inj (c : Dev nD) (k i k' i' : Fin 3) (h : (code (tokSem c k i).1, (tokSem c k i).2) = (code (tokSem c k' i').1, (tokSem c k' i').2)) :
    (k, i) = (k', i') := by revert c k i k' i'; decide
theorem tokOf_injective : Function.Injective tokOf := by
  rintro ⟨c, k, i⟩ ⟨c', k', i'⟩ h
  obtain rfl : c = c' := congrArg (fun x : GSem nD τ sig × ℕ × Fin 3 => x.1.1.1) h
  exact congrArg (Prod.mk c) (tokSem_inj c k i k' i' (congrArg (fun x : GSem nD τ sig × ℕ × Fin 3 => (code x.1.2, x.2.2)) h))
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duty tokens of step `k` of device `c`'s own cells. -/
def toks (c : Dev nD) (k : Fin 3) : sProp 𝕄 :=
  iprop(dutyTok ER (barCell c) 0 k ∗ dutyTok ER (sendCell c k) 0 0 ∗ dutyTok ER (recvCell c (pv k c)) 0 0)

/-- What the launch element deals device `c`, -/
def G (c : Dev nD) : sProp 𝕄 :=
  iprop((bigSep Finset.univ fun k : Fin 8 => roundState ER (sched m ρ) (kcell (c, k)) 0)
    ∗ (bigSep Finset.univ fun k : Fin 8 => iprop(atPos ER (kcell (c, k)) 0 ∅ 0 ∗ reached ER (kcell (c, k)) 0))
    ∗ toks c 0 ∗ toks c 1 ∗ toks c 2)
/-- and what the global step makes of it. -/
def G' (c : Dev nD) : sProp 𝕄 := iprop(∃ K, ghost m ρ K c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => iprop(toks c 0 ∗ toks c 1 ∗ toks c 2) := by
    unfold allToks; rw [bigSep_map, bigSep_univ_prod]
    refine bigSep_congr fun c _ => ?_
    rw [bigSep_univ_prod, bigSep_fin3, bigSep_fin3, bigSep_fin3, bigSep_fin3]; rfl
  simp only [bigSep_sep'] at hT
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The semaphores at launch and at exit -/

omit [FloatOps F] in
/-- The seven scoped semaphores and the barrier are the eight cells. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 8 => semVal (kcell (c, k)) 0 : sProp 𝕄) := by
  have hu : (unscopedSems0 c : sProp 𝕄) = semVal (barCell c) 0 := by
    unfold unscopedSems0; rw [bigSep_eq_bigSepL_of_eq [SemLoc.reg barS] (by decide) (by decide)]; rfl
  rw [hu, Pipeline.ownSems0_eq_of_list c osem [0, 1, 2, 3, 4, 5, 6] (by decide) (by decide),
    bigSep_univ_eq_bigSepL [0, 1, 2, 3, 4, 5, 6, 7] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c 0 ∗ toks c 1 ∗ toks c 2) := by
  have halloc : iprop((bigSep Finset.univ fun k : Fin 8 => semVal (kcell (c, k)) 0) ∗ bigSep Finset.univ fun k : Fin 8 => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold G
  iintro ⟨Hos, Hus, Hst, Hrest⟩
  ihave Hv := (Entails.of_eq (sems0_eq (F := F) c)) $$ [Hos Hus]
  · isplitl [Hus] <;> iassumption
  imod halloc $$ [Hv Hst] with Hinv
  · isplitl [Hv] <;> iassumption
  imodintro
  isplitl [Hinv]; · iexact Hinv
  iexact Hrest

/-! ## The tokens and positions dealt -/

omit [FloatOps F] in
/-- Each token of step `k` goes to the device that pays it. -/
theorem toks_turn (k : Fin 3) : (bigSep Finset.univ fun c : Dev nD => (toks c k : sProp 𝕄)) ⊢ bigSep Finset.univ fun c : Dev nD => payToks c k := by
  unfold toks payToks
  rw [bigSep_sep', bigSep_sep', bigSep_sep', bigSep_sep',
    bigSep_univ_equiv (turn k) (fun c : Dev nD => (dutyTok ER (barCell c) 0 k : sProp 𝕄)),
    bigSep_univ_equiv (turn k) (fun c : Dev nD => (dutyTok ER (recvCell c (pv k c)) 0 0 : sProp 𝕄))]
  refine sep_mono_right (sep_mono_right (Entails.of_eq (bigSep_congr fun c _ => ?_)))
  show (dutyTok ER (recvCell (nx k c) (pv k (nx k c))) 0 0 : sProp 𝕄) = _
  rw [pv_nx]

/-- What stays with device `c`: its positions and the tokens it pays with. -/
def linear (c : Dev nD) : sProp 𝕄 := iprop(places c ∗ payToks c 0 ∗ payToks c 1 ∗ payToks c 2)

theorem ghost_intro (K : Dev nD × Fin 8 → ℕ) (c : Dev nD) : iprop(records m ρ K ∗ linear c) ⊢ G' m ρ c := by
  unfold linear G' ghost
  iintro H; iexists K; iexact H

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c 0 ∗ toks c 1 ∗ toks c 2) : sProp 𝕄)
      ⊢ bigSep Finset.univ (G' m ρ) := by
  have hpos : (bigSep Finset.univ fun c : Dev nD => bigSep Finset.univ fun k : Fin 8 => (atPos ER (kcell (c, k)) 0 ∅ 0 : sProp 𝕄)) = bigSep Finset.univ fun c => places c :=
    bigSep_congr fun c _ => bigSep_cells c fun g => atPos ER g 0 ∅ 0
  have hlin : (bigSep Finset.univ fun c : Dev nD => (linear c : sProp 𝕄))
      = iprop((bigSep Finset.univ fun c : Dev nD => places c) ∗ (bigSep Finset.univ fun c : Dev nD => payToks c 0)
        ∗ (bigSep Finset.univ fun c : Dev nD => payToks c 1) ∗ bigSep Finset.univ fun c : Dev nD => payToks c 2) := by
    unfold linear; rw [bigSep_sep', bigSep_sep', bigSep_sep']
  have hdeal (K : Dev nD × Fin 8 → ℕ) : iprop(records m ρ K ∗ bigSep Finset.univ fun c : Dev nD => (linear c : sProp 𝕄)) ⊢ bigSep Finset.univ (G' m ρ) := by
    refine (sep_mono_left (BI.bigSep_of_persistent (I := Dev nD) Finset.univ (records m ρ K))).trans ?_
    rw [← bigSep_sep']
    exact bigSep_mono fun c _ => ghost_intro m ρ K c
  rw [bigSep_sep', bigSep_sep', bigSep_sep', bigSep_sep', ← bigSep_univ_prod (fun ck : Dev nD × Fin 8 => iprop(∃ κ : ℕ, cellInv ER (sched m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄)), hpos]
  iintro ⟨HI, ⟨Hat, #HR⟩, Ht0, Ht1, Ht2⟩
  ihave HK := (BI.bigSep_exists_pi Finset.univ (fun (ck : Dev nD × Fin 8) (κ : ℕ) => (cellInv ER (sched m ρ) κ (kcell ck) : sProp 𝕄))) $$ HI
  icases HK with ⟨%K, #HI⟩
  ihave Ht0 := (toks_turn (F := F) 0) $$ Ht0
  ihave Ht1 := (toks_turn (F := F) 1) $$ Ht1
  ihave Ht2 := (toks_turn (F := F) 2) $$ Ht2
  iapply (hdeal K)
  isplitr
  · unfold records; isplitl; · iexact HI
    iexact HR
  rw [hlin]
  isplitl [Hat]; · iexact Hat
  isplitl [Ht0]; · iexact Ht0
  isplitl [Ht1]; · iexact Ht1
  iexact Ht2

/-- The global step: the semaphores of every device at once become the cells, dealt to the devices. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem bar_ne_recv (a b s : Dev nD) : recvCell a s ≠ barCell b := fun h => by
  have := congrArg (fun g : GSem nD τ sig => code g.2) h
  rw [show code (recvCell a s).2 = 4 + s.val from code_recv s] at this
  exact absurd this (by show 4 + s.val ≠ 0; omega)
theorem bar_eq_iff (a b : Dev nD) : (barCell a = barCell b) = (a = b) :=
  propext ⟨fun h => congrArg (fun g : GSem nD τ sig => g.1.1) h, fun h => h ▸ rfl⟩
theorem recv_eq_iff (a b s t : Dev nD) : (recvCell a s = recvCell b t) = (a = b ∧ s = t) := by
  refine propext ⟨fun h => ⟨congrArg (fun g : GSem nD τ sig => g.1.1) h, ?_⟩, fun h => by rw [h.1, h.2]⟩
  have := congrArg (fun g : GSem nD τ sig => code g.2) h
  rw [show code (recvCell a s).2 = 4 + s.val from code_recv s, show code (recvCell b t).2 = 4 + t.val from code_recv t] at this
  exact Fin.ext (by omega)

/-- What `d` owes at a cell, summand by summand. -/
theorem owed_at (d : Dev nD) (g : GSem nD τ sig) : O₀ d g () =
    (((((if g = recvCell (nx 2 d) d then N else 0) + (if g = recvCell (nx 1 d) d then N else 0)) + (if g = recvCell (nx 0 d) d then N else 0))
      + (if g = barCell (nx 2 d) then 1 else 0)) + (if g = barCell (nx 1 d) then 1 else 0)) + (if g = barCell (nx 0 d) then 1 else 0) := by
  unfold O₀ O₅ O₄ O₃ O₂ O₁
  simp only [Pi.add_apply, Finsupp.add_apply, tallyAt_apply, Pi.zero_apply, Finsupp.zero_apply, Nat.zero_add, and_true]

theorem nx_flip (k : Fin 3) (c d : Dev nD) : (c = nx k d) = (d = pv k c) :=
  propext ⟨fun h => by rw [h, pv_nx], fun h => by rw [h, nx_pv]⟩

theorem owed_bar (d c : Dev nD) : O₀ d (barCell c) () = ((if d = pv 2 c then 1 else 0) + (if d = pv 1 c then 1 else 0)) + (if d = pv 0 c then 1 else 0) := by
  rw [owed_at]
  simp only [(bar_ne_recv _ _ _).symm, if_false, Nat.zero_add, bar_eq_iff, nx_flip]
theorem owed_recv (d c : Dev nD) (k : Fin 3) : O₀ d (recvCell c (pv k c)) () = if d = pv k c then N else 0 := by
  rw [owed_at]
  simp only [bar_ne_recv, if_false, Nat.add_zero, recv_eq_iff]
  by_cases h : d = pv k c
  · have e : ∀ j, (c = nx j d) = (j = k) := fun j => by subst h; revert c k j; decide
    simp only [e, eq_true h, eq_true h.symm, _root_.and_true, if_true]
    fin_cases k <;> simp
  · simp only [eq_false (Ne.symm h), _root_.and_false, if_false, if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]
theorem launch_recv (c : Dev nD) (k : Fin 3) :
    tallyOn (recvCell c (pv k c)) (launchCredit (Pipeline.owing O₀) 0 (recvCell c (pv k c))) = (tallyAt (recvCell c (pv k c)) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (pv k c) fun _ => N,
    if_pos (Finset.mem_univ _)]

omit [FloatOps F] in
theorem creds_intro (c : Dev nD) : (Pipeline.launchCred O₀ c : sProp 𝕄) ⊢ creds c := by
  unfold Pipeline.launchCred
  refine (bigSep_subset (Finset.subset_univ ([SemLoc.reg barS, .dma (recvS (pv 0 c)), .dma (recvS (pv 1 c)), .dma (recvS (pv 2 c))] : List (SemLoc sig)).toFinset)).trans ?_
  rw [bigSep_eq_bigSepL_of_eq [SemLoc.reg barS, .dma (recvS (pv 0 c)), .dma (recvS (pv 1 c)), .dma (recvS (pv 2 c))] rfl (by revert c; decide)]
  simp only [bigSepL_cons_cons, bigSepL_singleton]
  unfold creds
  rw [← launch_bar, ← launch_recv c 0, ← launch_recv c 1, ← launch_recv c 2]
  exact BI.Entails.refl _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  have hz : (zeros c : sProp 𝕄) = iprop(unscopedSems0 c ∗ Pipeline.ownSems0 osem c) :=
    (bigSep_cells c fun g => semVal g 0).symm.trans (sems0_eq c).symm
  rw [show (dats m ρ 0 c).Φ (Fin.last cfg0.N) = Φ₁ c from rfl, scopedRest0_eq]
  unfold Φ₁
  rw [hz]
  unfold scratches
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the program on the four devices terminates, with
    each device's five arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays after the run hold what they held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.Moe

end
-- ==== Proof.Mix.lean ====
/-
  The mixture on numbers, no program in it. `s` is one token's eight scores; its probabilities are the exponentials of the
  scores less the largest, divided by their sum; two named experts share the token in proportion to their probabilities.
  The shares are non-negative and finite whenever one of the two scores is above minus infinity (`shares`), which is what
  lets a share move in and out of a sum of products, infinite summands included (`real_mul_sum`). From it: weighting the
  token before each expert's product and adding over all eight experts is the weighted sum of the two named experts'
  products (`mixture`).
-/
module

public import Idealize.ShloMosaic.PureOps.Ideal
public import Idealize.ShloMosaic.PureOps.Ideal.Laws

@[expose] public section

noncomputable section

open scoped BigOperators

namespace Cert.Mix

open Idealize.ShloMosaic

/-- The largest of the eight scores. -/
def top (s : Fin 8 → EReal) : EReal := (Finset.univ : Finset (Fin 8)).fold max ⊥ s
/-- A score less the largest, exponentiated. -/
def ex (s : Fin 8 → EReal) (e : Fin 8) : EReal := Ideal.exp (s e - top s)
/-- An expert's probability. -/
def prob (s : Fin 8 → EReal) (e : Fin 8) : EReal := Ideal.div (ex s e) (∑ k, ex s k)

theorem le_top (s : Fin 8 → EReal) (e : Fin 8) : s e ≤ top s :=
  (Finset.le_fold_max _).2 (Or.inr ⟨e, Finset.mem_univ e, le_rfl⟩)

/-- The largest score is one of them. -/
theorem top_mem (s : Fin 8 → EReal) : ∃ e, top s = s e := by
  rcases eq_or_ne (top s) ⊥ with h | h
  · exact ⟨0, h.trans (le_bot_iff.1 (h ▸ le_top s 0)).symm⟩
  · have h' : top s ≤ top s := le_rfl
    rcases (Finset.le_fold_max (s := Finset.univ) (f := s) (b := ⊥) (top s)).1 h' with hb | ⟨e, -, he⟩
    · exact absurd (le_bot_iff.1 hb) h
    · exact ⟨e, le_antisymm he (le_top s e)⟩

/-- An exponential of something other than plus infinity is a non-negative real. -/
theorem exp_real {y : EReal} (hy : y ≠ ⊤) : ∃ r : ℝ, 0 ≤ r ∧ Ideal.exp y = r := by
  induction y using EReal.rec with
  | bot => exact ⟨0, le_rfl, by simp⟩
  | coe y => exact ⟨Real.exp y, (Real.exp_pos y).le, by simp⟩
  | top => exact absurd rfl hy

/-- Nothing less something at least as large is plus infinity. -/
theorem sub_ne_top {a b : EReal} (h : a ≤ b) : a - b ≠ ⊤ := by
  induction b using EReal.rec with
  | bot => rw [le_bot_iff.1 h]; simp [sub_eq_add_neg]
  | top => simp [sub_eq_add_neg]
  | coe b =>
    induction a using EReal.rec with
    | bot => simp [sub_eq_add_neg]
    | coe a => rw [← EReal.coe_sub]; exact EReal.coe_ne_top _
    | top => exact absurd (top_le_iff.1 h) (EReal.coe_ne_top b)

theorem ex_real (s : Fin 8 → EReal) (e : Fin 8) : ∃ r : ℝ, 0 ≤ r ∧ ex s e = r := exp_real (sub_ne_top (le_top s e))

/-- A finite sum of reals is a real. -/
theorem sum_real {ι : Type*} (T : Finset ι) (r : ι → ℝ) : ∑ k ∈ T, (r k : EReal) = ((∑ k ∈ T, r k : ℝ) : EReal) := by
  classical
  induction T using Finset.induction_on with
  | empty => simp
  | insert a T ha ih => rw [Finset.sum_insert ha, Finset.sum_insert ha, ih, EReal.coe_add]

/-- The share of an expert of probability `p` in a pair of probabilities `p` and `q`. -/
def share (s : Fin 8 → EReal) (e₀ e₁ e : Fin 8) : EReal := Ideal.div (prob s e) (prob s e₀ + prob s e₁)

/-- The shares of a pair of experts not both at minus infinity are non-negative reals; and dividing zero by what the pair's
    probabilities sum to gives zero. -/
theorem shares (s : Fin 8 → EReal) (e₀ e₁ : Fin 8) (h : s e₀ ≠ ⊥ ∨ s e₁ ≠ ⊥) :
    (∀ e, ∃ r : ℝ, 0 ≤ r ∧ share s e₀ e₁ e = r) ∧ Ideal.div 0 (prob s e₀ + prob s e₁) = 0 := by
  choose b hb0 hb using ex_real s
  have hS : ∑ k, ex s k = ((∑ k, b k : ℝ) : EReal) := by rw [Finset.sum_congr rfl fun k _ => hb k, sum_real]
  by_cases hz : (∑ k, b k) = 0
  · have hb' : ∀ k, ex s k = 0 := fun k => by
      rw [hb k, (Finset.sum_eq_zero_iff_of_nonneg fun k _ => hb0 k).1 hz k (Finset.mem_univ k)]; rfl
    have hp : ∀ k, prob s k = ⊥ := fun k => by unfold prob; rw [hS, hz, hb' k]; simp [Ideal.div]
    refine ⟨fun e => ⟨0, le_rfl, ?_⟩, ?_⟩
    · unfold share; rw [hp, hp, hp]; simp [Ideal.div]
    · rw [hp, hp]; simp [Ideal.div]
  · have hp : ∀ k, prob s k = ((b k * (1 / ∑ k, b k) : ℝ) : EReal) := fun k => by
      unfold prob; rw [hS, Ideal.div_coe hz, hb k, ← EReal.coe_mul]
    have hpos : 0 < 1 / ∑ k, b k := one_div_pos.2 (lt_of_le_of_ne (Finset.sum_nonneg fun k _ => hb0 k) (Ne.symm hz))
    -- the largest score is real, or every exponential would vanish
    have hreal : ∀ e, s e ≠ ⊥ → 0 < b e := fun e he => by
      refine lt_of_le_of_ne (hb0 e) fun h0 => hz (Finset.sum_eq_zero fun k _ => ?_)
      have hx : Ideal.exp (s e - top s) = 0 := by have := hb e; rw [← h0] at this; exact this
      have htop : top s = ⊤ := by
        have hle := le_top s e
        generalize top s = u at *
        generalize s e = v at *
        induction u using EReal.rec with
        | top => rfl
        | bot => exact absurd (le_bot_iff.1 hle) he
        | coe u =>
          induction v using EReal.rec with
          | bot => exact absurd rfl he
          | top => exact absurd (top_le_iff.1 hle) (EReal.coe_ne_top u)
          | coe v =>
            rw [← EReal.coe_sub, Ideal.exp_coe] at hx
            exact absurd (EReal.coe_eq_zero.1 hx) (Real.exp_pos _).ne'
      have hk : ex s k = 0 := by unfold ex; rw [htop]; simp [sub_eq_add_neg]
      exact EReal.coe_eq_zero.1 ((hb k).symm.trans hk)
    have hg : 0 < b e₀ * (1 / ∑ k, b k) + b e₁ * (1 / ∑ k, b k) := by
      rcases h with h | h
      · exact add_pos_of_pos_of_nonneg (mul_pos (hreal _ h) hpos) (mul_nonneg (hb0 _) hpos.le)
      · exact add_pos_of_nonneg_of_pos (mul_nonneg (hb0 _) hpos.le) (mul_pos (hreal _ h) hpos)
    refine ⟨fun e => ⟨b e * (1 / ∑ k, b k) * (1 / (b e₀ * (1 / ∑ k, b k) + b e₁ * (1 / ∑ k, b k))),
      mul_nonneg (mul_nonneg (hb0 e) hpos.le) (one_div_pos.2 hg).le, ?_⟩, ?_⟩
    · unfold share; rw [hp, hp, hp, ← EReal.coe_add, Ideal.div_coe hg.ne', ← EReal.coe_mul]
    · rw [hp, hp, ← EReal.coe_add, Ideal.div_coe hg.ne', zero_mul]

/-- A non-negative real moves into a sum, whatever the summands. -/
theorem real_mul_sum {ι : Type*} (T : Finset ι) {r : ℝ} (hr : 0 ≤ r) (f : ι → EReal) :
    (r : EReal) * ∑ k ∈ T, f k = ∑ k ∈ T, (r : EReal) * f k := by
  classical
  induction T using Finset.induction_on with
  | empty => simp
  | insert a T ha ih =>
    rw [Finset.sum_insert ha, Finset.sum_insert ha, EReal.left_distrib_of_nonneg_of_ne_top (EReal.coe_nonneg.2 hr) (EReal.coe_ne_top r), ih]

variable {n : Nat}

/-- What a mixture gives one output from the token `x` and the eight experts' columns `E`, two experts named. -/
def mix (s : Fin 8 → EReal) (e₀ e₁ : Fin 8) (x : Fin n → EReal) (E : Fin 8 → Fin n → EReal) : EReal :=
  share s e₀ e₁ e₀ * (∑ j, x j * E e₀ j) + share s e₀ e₁ e₁ * (∑ j, x j * E e₁ j)

/-- The weight every expert gets: a named expert its share, any other one zero divided by what the pair's probabilities
    sum to. -/
def weight (s : Fin 8 → EReal) (e₀ e₁ e : Fin 8) : EReal := Ideal.div (if e₀ = e ∨ e₁ = e then prob s e else 0) (prob s e₀ + prob s e₁)

/-- Every expert's weight times the token before its product, added over the eight experts, is the mixture. -/
theorem mixture (s : Fin 8 → EReal) (e₀ e₁ : Fin 8) (hne : e₀ ≠ e₁) (h : s e₀ ≠ ⊥ ∨ s e₁ ≠ ⊥) (x : Fin n → EReal)
    (E : Fin 8 → Fin n → EReal) : ∑ e, ∑ j, weight s e₀ e₁ e * x j * E e j = mix s e₀ e₁ x E := by
  obtain ⟨hs, h0⟩ := shares s e₀ e₁ h
  have hin : ∀ e, (e₀ = e ∨ e₁ = e) → ∑ j, weight s e₀ e₁ e * x j * E e j = share s e₀ e₁ e * ∑ j, x j * E e j := fun e he => by
    obtain ⟨r, hr, hsr⟩ := hs e
    rw [show weight s e₀ e₁ e = (r : EReal) by unfold weight; rw [if_pos he]; exact hsr, hsr, real_mul_sum _ hr]
    exact Finset.sum_congr rfl fun j _ => mul_assoc _ _ _
  have hout : ∀ e, ¬(e₀ = e ∨ e₁ = e) → ∑ j, weight s e₀ e₁ e * x j * E e j = 0 := fun e he => by
    rw [show weight s e₀ e₁ e = 0 by unfold weight; rw [if_neg he]; exact h0]
    exact Finset.sum_eq_zero fun j _ => by rw [zero_mul, zero_mul]
  rw [← Finset.sum_subset (Finset.subset_univ {e₀, e₁}) fun e _ he => hout e fun h => he (by
    rcases h with rfl | rfl <;> simp), Finset.sum_pair hne, hin e₀ (Or.inl rfl), hin e₁ (Or.inr rfl)]
  rfl

end Cert.Mix

end
-- ==== Proof.Picks.lean ====
/-
  The two table reads of the routing, at an index: one entry of a 512x8 table per row, chosen by a pair of words, and one of
  eight 256x512 matrices per row, chosen by a word. Both read their words signed and clamp them to the table.
-/
module

public import Idealize.ShloMosaic.Lib.Pointwise

@[expose] public section

noncomputable section

namespace Cert.Picks

open Idealize.ShloMosaic

variable {α : Type}

/-- Entry `(a, b)` of a 512x8 table, `a` and `b` the two words of row `t`. -/
abbrev cellDims (wf : GatherDims.WF ⟨2, ![512, 8]⟩ ⟨2, ![512, 2]⟩ ⟨1, ![512]⟩ [] [0, 1] [] [0, 1] [] 1 ![1, 1]) :
    GatherDims ⟨2, ![512, 8]⟩ ⟨2, ![512, 2]⟩ ⟨1, ![512]⟩ where
  offsetDims := []
  collapsedSliceDims := [0, 1]
  operandBatchingDims := []
  startIndicesBatchingDims := []
  startIndexMap := [0, 1]
  indexVectorDim := 1
  sliceSizes := ![1, 1]
  wf := wf

/-- Matrix `a` of eight, `a` the word of row `t`. -/
abbrev slabDims (wf : GatherDims.WF ⟨3, ![8, 256, 512]⟩ ⟨2, ![512, 1]⟩ ⟨3, ![512, 256, 512]⟩ [1, 2] [0] [] [0] [] 1 ![1, 256, 512]) :
    GatherDims ⟨3, ![8, 256, 512]⟩ ⟨2, ![512, 1]⟩ ⟨3, ![512, 256, 512]⟩ where
  offsetDims := [1, 2]
  collapsedSliceDims := [0]
  operandBatchingDims := []
  startIndicesBatchingDims := []
  startIndexMap := [0]
  indexVectorDim := 1
  sliceSizes := ![1, 256, 512]
  wf := wf

/-- The entry read for row `t` whose words are those of `a` and `b`. -/
theorem cell_apply (wf) (x : (⟨2, ![512, 8]⟩ : Shape).Idx → α) (idx : IVec ⟨2, ![512, 2]⟩ 32) (t : Fin 512) (a : Fin 512) (b : Fin 8)
    (ha : (idx (ix2 t 0)).toInt = a.val) (hb : (idx (ix2 t 1)).toInt = b.val) :
    Host.gather (cellDims wf) x idx (ix1 t) = x (ix2 a b) := by
  unfold Host.gather
  congr 1
  funext k
  refine Fin.ext ?_
  show (cellDims wf).start (ix1 t) idx k + (cellDims wf).batchCoord (ix1 t) k + (cellDims wf).offCoord (ix1 t) k = _
  have hk : k = (0 : Fin 2) ∨ k = (1 : Fin 2) := by revert k; decide
  have hc : k ∈ (cellDims wf).collapsedSliceDims := by
    show k ∈ ([0, 1] : List (Fin 2))
    rcases hk with rfl | rfl <;> decide
  rw [GatherDims.batchCoord_eq_zero _ _ _ List.not_mem_nil,
    GatherDims.offCoord_eq_zero _ _ _ (fun h => ((GatherDims.mem_sKept _ _).mp h).1 hc)]
  simp only [Nat.add_zero]
  have m0 : (0 : Fin 2) ∈ (cellDims wf).startIndexMap := by show (0 : Fin 2) ∈ ([0, 1] : List (Fin 2)); decide
  have m1 : (1 : Fin 2) ∈ (cellDims wf).startIndexMap := by show (1 : Fin 2) ∈ ([0, 1] : List (Fin 2)); decide
  unfold GatherDims.start
  rcases hk with rfl | rfl
  · rw [dif_pos m0]
    have hsi : (cellDims wf).siIdx (ix1 t) ⟨List.idxOf (0 : Fin 2) (cellDims wf).startIndexMap, List.idxOf_lt_length_iff.2 m0⟩ = ix2 t 0 := by
      funext c; refine Fin.ext ?_
      match c with
      | ⟨0, _⟩ => rfl
      | ⟨1, _⟩ => rfl
    show min (idx ((cellDims wf).siIdx (ix1 t) ⟨List.idxOf (0 : Fin 2) (cellDims wf).startIndexMap, _⟩)).toInt.toNat (512 - 1) = a.val
    rw [hsi, ha]
    have := a.isLt
    omega
  · rw [dif_pos m1]
    have hsi : (cellDims wf).siIdx (ix1 t) ⟨List.idxOf (1 : Fin 2) (cellDims wf).startIndexMap, List.idxOf_lt_length_iff.2 m1⟩ = ix2 t 1 := by
      funext c; refine Fin.ext ?_
      match c with
      | ⟨0, _⟩ => rfl
      | ⟨1, _⟩ => rfl
    show min (idx ((cellDims wf).siIdx (ix1 t) ⟨List.idxOf (1 : Fin 2) (cellDims wf).startIndexMap, _⟩)).toInt.toNat (8 - 1) = b.val
    rw [hsi, hb]
    have := b.isLt
    omega

/-- The matrix entry read for row `t` whose word is that of `a`. -/
theorem slab_apply (wf) (x : (⟨3, ![8, 256, 512]⟩ : Shape).Idx → α) (idx : IVec ⟨2, ![512, 1]⟩ 32) (t : Fin 512) (j : Fin 256) (o : Fin 512)
    (a : Fin 8) (ha : (idx (ix2 t 0)).toInt = a.val) :
    Host.gather (slabDims wf) x idx (ix3 t j o) = x (ix3 a j o) := by
  unfold Host.gather
  congr 1
  funext k
  refine Fin.ext ?_
  show (slabDims wf).start (ix3 t j o) idx k + (slabDims wf).batchCoord (ix3 t j o) k + (slabDims wf).offCoord (ix3 t j o) k = _
  rw [GatherDims.batchCoord_eq_zero _ _ _ List.not_mem_nil, Nat.add_zero]
  have hk : k = (0 : Fin 3) ∨ k = (1 : Fin 3) ∨ k = (2 : Fin 3) := by revert k; decide
  have m0 : (0 : Fin 3) ∈ (slabDims wf).startIndexMap := by show (0 : Fin 3) ∈ ([0] : List (Fin 3)); decide
  have m1 : ¬ (1 : Fin 3) ∈ (slabDims wf).startIndexMap := by show ¬ (1 : Fin 3) ∈ ([0] : List (Fin 3)); decide
  have m2 : ¬ (2 : Fin 3) ∈ (slabDims wf).startIndexMap := by show ¬ (2 : Fin 3) ∈ ([0] : List (Fin 3)); decide
  have k0 : ¬ (0 : Fin 3) ∈ (slabDims wf).sKept := fun h => ((GatherDims.mem_sKept _ _).mp h).1 m0
  have k1 : (1 : Fin 3) ∈ (slabDims wf).sKept := (GatherDims.mem_sKept _ _).mpr ⟨m1, List.not_mem_nil⟩
  have k2 : (2 : Fin 3) ∈ (slabDims wf).sKept := (GatherDims.mem_sKept _ _).mpr ⟨m2, List.not_mem_nil⟩
  unfold GatherDims.start GatherDims.offCoord
  rcases hk with rfl | rfl | rfl
  · rw [dif_pos m0, dif_neg k0]
    have hsi : (slabDims wf).siIdx (ix3 t j o) ⟨List.idxOf (0 : Fin 3) (slabDims wf).startIndexMap, List.idxOf_lt_length_iff.2 m0⟩ = ix2 t 0 := by
      funext c; refine Fin.ext ?_
      match c with
      | ⟨0, _⟩ => rfl
      | ⟨1, _⟩ => rfl
    show min (idx ((slabDims wf).siIdx (ix3 t j o) ⟨List.idxOf (0 : Fin 3) (slabDims wf).startIndexMap, _⟩)).toInt.toNat (8 - 1) + 0 = a.val
    rw [hsi, ha]
    have := a.isLt
    omega
  · rw [dif_neg m1, dif_pos k1, Nat.zero_add]; rfl
  · rw [dif_neg m2, dif_pos k2, Nat.zero_add]; rfl

/-- The word of an expert's number, signed. -/
theorem word_toInt (e : Fin 8) : (BitVec.ofNat 32 e.val).toInt = e.val := by revert e; decide
/-- The word of a row's number, signed. -/
theorem row_toInt (t : Fin 512) : (BitVec.ofNat 32 t.val).toInt = t.val := by
  have := t.isLt
  rw [BitVec.toInt_eq_toNat_cond, BitVec.toNat_ofNat]; omega

/-- A word that is not negative is its own wrapped index. -/
theorem wrap_eq (v n : BitVec 32) (k : Nat) (h : v.toInt = k) : Scalar.select (IntOp.cmpi .slt v 0#32) (IntOp.addi v n) v = v := by
  have hn : v.slt 0#32 = false := by
    rw [BitVec.slt_eq_decide, h]; exact decide_eq_false (by show ¬ (k : Int) < 0; omega)
  unfold Scalar.select
  show (if BitVec.ofBool (v.slt 0#32) = 1 then _ else _) = v
  rw [hn]; rfl

/-- A selection on an equality of words, -/
theorem select_eq {β : Type} (a b : BitVec 32) (x y : β) : Scalar.select (IntOp.cmpi .eq a b) x y = if a = b then x else y := by
  show (if BitVec.ofBool (a == b) = 1 then x else y) = _
  by_cases h : a = b
  · rw [if_pos h, beq_iff_eq.2 h]; rfl
  · rw [if_neg h, beq_eq_false_iff_ne.2 h]; rfl

/-- and on either of two. -/
theorem select_eq_or {β : Type} (a b c d : BitVec 32) (x y : β) :
    Scalar.select (IntOp.ori (IntOp.cmpi .eq a b) (IntOp.cmpi .eq c d)) x y = if a = b ∨ c = d then x else y := by
  show (if BitVec.ofBool (a == b) ||| BitVec.ofBool (c == d) = 1 then x else y) = _
  by_cases h : a = b <;> by_cases h' : c = d
  · rw [if_pos (Or.inl h), beq_iff_eq.2 h, beq_iff_eq.2 h']; rfl
  · rw [if_pos (Or.inl h), beq_iff_eq.2 h, beq_eq_false_iff_ne.2 h']; rfl
  · rw [if_pos (Or.inr h'), beq_eq_false_iff_ne.2 h, beq_iff_eq.2 h']; rfl
  · rw [if_neg (not_or.2 ⟨h, h'⟩), beq_eq_false_iff_ne.2 h, beq_eq_false_iff_ne.2 h']; rfl

/-- Words of two experts' numbers are equal only if the experts are. -/
theorem word_inj (a b : Fin 8) : BitVec.ofNat 32 a.val = BitVec.ofNat 32 b.val ↔ a = b := by revert a b; decide

/-- The pattern of minus infinity. -/
theorem negInf : Ideal.ofBits .f32 0xFF800000#32 = ⊥ := by simp [Ideal.ofBits, Ideal.ieee]

end Cert.Picks

end
-- ==== Proof.ValI.lean ====
/-
  The kernel's result read at an index: row `r` of device `c`'s block is, for token `128 c + r`, the sum over the four devices
  of what each device's two experts give of the token scaled by their weights.
-/
module

public import proofs.«01_k».proof.Proof.RunI
public import proofs.«01_k».proof.Proof.Mix
public import proofs.«01_k».proof.Proof.Picks
public import Idealize.ShloMosaic.Lib.Pointwise
public import Idealize.ShloMosaic.Lib.Pipeline.ValueKit

@[expose] public section

noncomputable section

namespace Cert.KernelIdeal.Val

open Cert.KernelIdeal Cert.KernelIdeal.Gen Cert.KernelIdeal.Moe Idealize.ShloMosaic Idealize.ShloMosaic.TcCoe Cert
open Idealize.ShloMosaic.Pipeline (Dat)

set_option maxRecDepth 16384

/-- A token's scores. -/
def score (x : FVec Ideal S512x256 .f32) (w : FVec Ideal S256x8 .f32) (t : Fin 512) (e : Fin 8) : EReal :=
  ∑ k : Fin 256, x (ix2 t k) * w (ix2 k e)

/-- The probability of the expert a word names, zero if it names none. -/
def named (s : Fin 8 → EReal) (v : BitVec 32) : EReal := ∑ e : Fin 8, if v = BitVec.ofNat 32 e.val then Mix.prob s e else 0

/-- The weight the kernel gives token `t` at expert `e`. -/
def wt (x : FVec Ideal S512x256 .f32) (w : FVec Ideal S256x8 .f32) (i : IVec S512x2 32) (t : Fin 512) (e : Fin 8) : EReal :=
  Ideal.div (if i (ix2 t 0) = BitVec.ofNat 32 e.val ∨ i (ix2 t 1) = BitVec.ofNat 32 e.val then Mix.prob (score x w t) e else 0)
    (named (score x w t) (i (ix2 t 0)) + named (score x w t) (i (ix2 t 1)))

theorem pay3_apply (x : FVec Ideal S512x256 .f32) (w : FVec Ideal S256x8 .f32) (t : Fin 512) (e : Fin 8) :
    k0_pay3 (F := Ideal) x w (ix2 t e) = Mix.prob (score x w t) e := by
  pointwise [k0_pay3, k0_pay2]
  rw [Picks.negInf]
  rfl

theorem pay5_apply (i : IVec S512x2 32) (t : Fin 512) (e : Fin 8) :
    k0_pay5 (F := Ideal) i (ix2 t e) = IntOp.cmpi .eq (i (ix2 t 0)) (BitVec.ofNat 32 e.val) := by
  pointwise [k0_pay5, k0_pay4]

theorem pay6_apply (i : IVec S512x2 32) (t : Fin 512) (e : Fin 8) :
    k0_pay6 (F := Ideal) i (ix2 t e) = IntOp.cmpi .eq (i (ix2 t 1)) (BitVec.ofNat 32 e.val) := by
  pointwise [k0_pay6, k0_pay4]

theorem pay7_apply (x : FVec Ideal S512x256 .f32) (w : FVec Ideal S256x8 .f32) (i : IVec S512x2 32) (t : Fin 512) :
    k0_pay7 (F := Ideal) x w i (ix2 t 0) = named (score x w t) (i (ix2 t 0)) := by
  pointwise [k0_pay7]
  exact Finset.sum_congr rfl fun e _ => by rw [pay5_apply, pay3_apply, Picks.select_eq]

theorem pay8_apply (x : FVec Ideal S512x256 .f32) (w : FVec Ideal S256x8 .f32) (i : IVec S512x2 32) (t : Fin 512) (e : Fin 8) :
    k0_pay8 (F := Ideal) x w i (ix2 t e) = if i (ix2 t 1) = BitVec.ofNat 32 e.val then Mix.prob (score x w t) e else 0 := by
  pointwise [k0_pay8]
  rw [pay6_apply, pay3_apply, Picks.select_eq]

theorem pay9_apply (x : FVec Ideal S512x256 .f32) (w : FVec Ideal S256x8 .f32) (i : IVec S512x2 32) (t : Fin 512) (e : Fin 8) :
    k0_pay9 (F := Ideal) (k0_pay3 x w) (k0_pay5 (F := Ideal) i) (k0_pay6 (F := Ideal) i) (k0_pay7 x w i) (k0_pay8 x w i) (ix2 t e) = wt x w i t e := by
  pointwise [k0_pay9]
  rw [pay5_apply, pay6_apply, pay3_apply, pay7_apply, Picks.select_eq_or]
  simp only [pay8_apply]
  rfl

/-- The only expert whose number is a given one, picked out of a sum. -/
theorem sum_pick (e : Fin 8) (f : Fin 8 → EReal) : (∑ k : Fin 8, if BitVec.ofNat 32 k.val = BitVec.ofNat 32 e.val then f k else 0) = f e := by
  simp only [Picks.word_inj]
  simp

theorem pay10_apply (n : BitVec 32) (x : FVec Ideal S512x256 .f32) (w : FVec Ideal S256x8 .f32) (i : IVec S512x2 32) (t : Fin 512) (k : Fin 256)
    (e : Fin 8) (he : Scalar.muli n 2#32 = BitVec.ofNat 32 e.val) :
    k0_pay10 (F := Ideal) n (k0_pay2 x) (k0_pay3 x w) (iota .tc S512x8 32 [1] iota_S512x8_d1_w32) (k0_pay5 (F := Ideal) i) (k0_pay6 (F := Ideal) i)
      (k0_pay7 x w i) (k0_pay8 x w i) (ix3 0 t k) = wt x w i t e * x (ix2 t k) := by
  pointwise [k0_pay10, k0_pay2]
  simp only [pay9_apply, he, Picks.select_eq, sum_pick]

theorem pay11_apply (n : BitVec 32) (x : FVec Ideal S512x256 .f32) (w : FVec Ideal S256x8 .f32) (i : IVec S512x2 32) (t : Fin 512) (k : Fin 256)
    (e : Fin 8) (he : Scalar.addi (Scalar.muli n 2#32) 1#32 = BitVec.ofNat 32 e.val) :
    k0_pay11 (F := Ideal) n (k0_pay2 x) (k0_pay3 x w) (iota .tc S512x8 32 [1] iota_S512x8_d1_w32) (k0_pay5 (F := Ideal) i) (k0_pay6 (F := Ideal) i)
      (k0_pay7 x w i) (k0_pay8 x w i) (ix3 0 t k) = wt x w i t e * x (ix2 t k) := by
  pointwise [k0_pay11, k0_pay2]
  simp only [pay9_apply, he, Picks.select_eq, sum_pick]

/-! ## On a device -/

variable (m : (ℓ : Loc nD τ sig) → Buf (Elt Ideal) ℓ) (ρ : Dev nD → PrngReg)

/-- The first and the second expert of a device. -/
def ea (d : Dev nD) : Fin 8 := ⟨2 * d.val, by have : d.val < 4 := d.isLt; omega⟩
def eb (d : Dev nD) : Fin 8 := ⟨2 * d.val + 1, by have : d.val < 4 := d.isLt; omega⟩
/-- The token that row `r` of block `j` is. -/
def tok (j : Fin 4) (r : Fin 128) : Fin 512 := ⟨128 * j.val + r.val, by omega⟩

theorem num_a (d : Dev nD) : Scalar.muli (num d) 2#32 = BitVec.ofNat 32 (ea d).val := by revert d; decide +kernel
theorem num_b (d : Dev nD) : Scalar.addi (Scalar.muli (num d) 2#32) 1#32 = BitVec.ofNat 32 (eb d).val := by revert d; decide +kernel

/-- The staged inputs are the arguments. -/
theorem xs_eq (c : Dev nD) : xs (F := Ideal) m ρ c = m ((c : Thread nD τ).loc main_arg0) := by
  funext i
  show ((win0_0.blk t0_0).view.read (Elt Ideal) (m ((c : Thread nD τ).loc main_arg0))) i = _
  blk_simp
  refine congrArg (m ((c : Thread nD τ).loc main_arg0)) (funext fun a => Fin.ext ?_)
  blk_simp
  show 0 * win0_0.size a + (i a).val = (i a).val
  rw [Nat.zero_mul, Nat.zero_add]
theorem ws_eq (c : Dev nD) : ws (F := Ideal) m ρ c = m ((c : Thread nD τ).loc main_arg1) := by
  funext i
  show ((win0_1.blk t0_0).view.read (Elt Ideal) (m ((c : Thread nD τ).loc main_arg1))) i = _
  blk_simp
  refine congrArg (m ((c : Thread nD τ).loc main_arg1)) (funext fun a => Fin.ext ?_)
  blk_simp
  show 0 * win0_1.size a + (i a).val = (i a).val
  rw [Nat.zero_mul, Nat.zero_add]
theorem is_eq (c : Dev nD) : is (F := Ideal) m ρ c = m ((c : Thread nD τ).loc main_arg2) := by
  funext i
  show ((win0_2.blk t0_0).view.read (Elt Ideal) (m ((c : Thread nD τ).loc main_arg2))) i = _
  blk_simp
  refine congrArg (m ((c : Thread nD τ).loc main_arg2)) (funext fun a => Fin.ext ?_)
  blk_simp
  show 0 * win0_2.size a + (i a).val = (i a).val
  rw [Nat.zero_mul, Nat.zero_add]
theorem es_eq (c : Dev nD) : es (F := Ideal) m ρ c = m ((c : Thread nD τ).loc main_arg3) := by
  funext i
  show ((win0_3.blk t0_0).view.read (Elt Ideal) (m ((c : Thread nD τ).loc main_arg3))) i = _
  blk_simp
  refine congrArg (m ((c : Thread nD τ).loc main_arg3)) (funext fun a => Fin.ext ?_)
  blk_simp
  show 0 * win0_3.size a + (i a).val = (i a).val
  rw [Nat.zero_mul, Nat.zero_add]

/-- A device's part of a token's result: its two experts' products with the token scaled by their weights. -/
def part (d : Dev nD) (t : Fin 512) (o : Fin 512) : EReal :=
  (∑ k : Fin 256, wt (xs m ρ d) (ws m ρ d) (is m ρ d) t (ea d) * xs m ρ d (ix2 t k) * es m ρ d (ix3 0 k o))
    + ∑ k : Fin 256, wt (xs m ρ d) (ws m ρ d) (is m ρ d) t (eb d) * xs m ρ d (ix2 t k) * es m ρ d (ix3 1 k o)

theorem xr0_apply (d : Dev nD) (j : Fin 4) (r : Fin 128) (k : Fin 256) :
    xr0 (F := Ideal) m ρ d j (ix3 0 r k) = wt (xs m ρ d) (ws m ρ d) (is m ρ d) (tok j r) (ea d) * xs m ρ d (ix2 (tok j r) k) := by
  refine Eq.trans (congrArg (xw0 (F := Ideal) m ρ d) ?_) (pay10_apply (num d) _ _ _ (tok j r) k (ea d) (num_a d))
  funext a; refine Fin.ext ?_
  match a with
  | ⟨0, _⟩ => rfl
  | ⟨1, _⟩ => show 128 * j.val + 1 * r.val = 128 * j.val + r.val; omega
  | ⟨2, _⟩ => show 0 + 1 * k.val = k.val; omega

theorem xr1_apply (d : Dev nD) (j : Fin 4) (r : Fin 128) (k : Fin 256) :
    xr1 (F := Ideal) m ρ d j (ix3 0 r k) = wt (xs m ρ d) (ws m ρ d) (is m ρ d) (tok j r) (eb d) * xs m ρ d (ix2 (tok j r) k) := by
  refine Eq.trans (congrArg (xw1 (F := Ideal) m ρ d) ?_) (pay11_apply (num d) _ _ _ (tok j r) k (eb d) (num_b d))
  funext a; refine Fin.ext ?_
  match a with
  | ⟨0, _⟩ => rfl
  | ⟨1, _⟩ => show 128 * j.val + 1 * r.val = 128 * j.val + r.val; omega
  | ⟨2, _⟩ => show 0 + 1 * k.val = k.val; omega

theorem w0_apply (d : Dev nD) (k : Fin 256) (o : Fin 512) : w0 (F := Ideal) m ρ d (ix2 k o) = es m ρ d (ix3 0 k o) := by
  unfold w0
  pointwise [k0_pay12]
  refine congrArg (es (F := Ideal) m ρ d) (funext fun a => Fin.ext ?_)
  match a with
  | ⟨0, _⟩ => rfl
  | ⟨1, _⟩ => show 0 + 1 * k.val = k.val; omega
  | ⟨2, _⟩ => show 0 + 1 * o.val = o.val; omega

theorem w1_apply (d : Dev nD) (k : Fin 256) (o : Fin 512) : w1 (F := Ideal) m ρ d (ix2 k o) = es m ρ d (ix3 1 k o) := by
  unfold w1
  pointwise [k0_pay13]
  refine congrArg (es (F := Ideal) m ρ d) (funext fun a => Fin.ext ?_)
  match a with
  | ⟨0, _⟩ => rfl
  | ⟨1, _⟩ => show 0 + 1 * k.val = k.val; omega
  | ⟨2, _⟩ => show 0 + 1 * o.val = o.val; omega

theorem chunk_apply (d : Dev nD) (j : Fin 4) (r : Fin 128) (o : Fin 512) : chunk (F := Ideal) m ρ d j (ix2 r o) = part m ρ d (tok j r) o := by
  unfold chunk
  pointwise [k0_pay14]
  simp only [xr0_apply, xr1_apply, w0_apply, w1_apply]
  rfl

/-- The kernel's result: its own part and the three received ones. -/
theorem outAt_apply (c : Dev nD) (r : Fin 128) (o : Fin 512) :
    outAt (F := Ideal) m ρ c (ix2 r o)
      = part m ρ c (tok c r) o + part m ρ (pv 0 c) (tok c r) o + part m ρ (pv 1 c) (tok c r) o + part m ρ (pv 2 c) (tok c r) o := by
  unfold outAt
  pointwise [k0_pay1, k0_pay19, k0_pay18, k0_pay17]
  simp only [xr0_apply, xr1_apply, w0_apply, w1_apply, chunk_apply]
  rfl

/-- The output array holds it at the end. -/
theorem final_out (c : Dev nD) : finalA (F := Ideal) m ρ c 4 = outAt m ρ c := by
  refine (dats (F := Ideal) m ρ 0 c).arrAt_eq_of_after_last 4 t0_0 (by decide +kernel) _ fun j => ?_
  blk_simp
  rfl

end Cert.KernelIdeal.Val

end
-- ==== Proof.ValR.lean ====
/-
  The reference read at an index: element `(t, o)` of its result is the mixture (Mix.lean) of token `t`'s two named
  experts, whenever the two words of `t` are those of experts.
-/
module

public import proofs.«01_k».proof.Proof.Gen.ReferenceIdeal.Run
public import proofs.«01_k».proof.Proof.Mix
public import proofs.«01_k».proof.Proof.Picks

@[expose] public section

noncomputable section

namespace Cert.ReferenceIdeal.Val

open Cert.ReferenceIdeal Cert.ReferenceIdeal.Gen Cert.ReferenceIdeal.Value Idealize.ShloMosaic Idealize.ShloMosaic.TcCoe Cert

/-- A token's scores. -/
def score (x : FVec Ideal S512x256 .f32) (w : FVec Ideal S256x8 .f32) (t : Fin 512) (e : Fin 8) : EReal :=
  ∑ k : Fin 256, x (ix2 t k) * w (ix2 k e)

def scoresR (x : FVec Ideal S512x256 .f32) (w : FVec Ideal S256x8 .f32) : FVec Ideal S512x8 .f32 :=
  Host.dotGeneral dot_S512x256_S256x8_S512x8_1_0_0_1_n_n none x w
def expR (s : FVec Ideal S512x8 .f32) : FVec Ideal S512x8 .f32 :=
  Host.exp (subf s (broadcastInDim S512x8 ![0, 1] bcast_S512x1_S512x8_0_1 (broadcastInDim S512x1 ![0] bcast_S512_S512x1_0
    (Host.reduce FloatOps.maximumf s (constant S_ .f32 0xFF800000#32) reducesTo_S512x8_S512_d1 h_S_))))
/-- The reference's probabilities, -/
def probsR (x : FVec Ideal S512x256 .f32) (w : FVec Ideal S256x8 .f32) : FVec Ideal S512x8 .f32 :=
  Host.divf (expR (scoresR x w)) (broadcastInDim S512x8 ![0, 1] bcast_S512x1_S512x8_0_1 (broadcastInDim S512x1 ![0] bcast_S512_S512x1_0
    (Host.reduceAdd (expR (scoresR x w)) (constant S_ .f32 0x00000000#32) reducesTo_S512x8_S512_d1 h_S_)))
/-- the first and the second words of the tokens, -/
def col0 (i : IVec S512x2 32) : IVec S512 32 := shapeCast _ (extractStridedSlice S512x1 ![0, 0] i slices_S512x2_S512x1_0_0) shapeCasts_S512x1_S512
def col1 (i : IVec S512x2 32) : IVec S512 32 := shapeCast _ (extractStridedSlice S512x1 ![0, 1] i slices_S512x2_S512x1_0_1) shapeCasts_S512x1_S512
/-- words brought into range from below, as a column, -/
def wrapR (v : IVec S512 32) (n : BitVec 32) : IVec S512x1 32 :=
  broadcastInDim S512x1 ![0] bcast_S512_S512x1_0 (select (cmpi .slt v (broadcastInDim S512 ![] bcast_S_S512 (constantI S_ 32 0#32)))
    (addi v (broadcastInDim S512 ![] bcast_S_S512 (constantI S_ 32 n))) v)
/-- the table of places the probabilities are read at, -/
def placeR (v : IVec S512 32) : IVec S512x2 32 :=
  concatenate S512x2 1 [⟨S512x1, wrapR (iotaInDim S512 32 0) 512#32⟩, ⟨S512x1, wrapR v 8#32⟩] concatenates_S512x1_S512x1_S512x2_d1
/-- the probabilities read there, -/
def gateR (p : FVec Ideal S512x8 .f32) (v : IVec S512 32) : FVec Ideal S512x1 .f32 :=
  broadcastInDim S512x1 ![0] bcast_S512_S512x1_0 (Host.gather gather_S512x8_S512x2_S512_n_01_n_n_01_1_11 p (placeR v))
/-- every token's product with its named expert, -/
def prodR (x : FVec Ideal S512x256 .f32) (W : FVec Ideal S8x256x512 .f32) (v : IVec S512 32) : FVec Ideal S512x512 .f32 :=
  Host.dotGeneral dot_S512x256_S512x256x512_S512x512_1_1_n_2_0_0 none x
    (Host.gather gather_S8x256x512_S512x1_S512x256x512_12_0_n_n_0_1_1256512 W (wrapR v 8#32))
/-- and the whole result. -/
def outR (x : FVec Ideal S512x256 .f32) (w : FVec Ideal S256x8 .f32) (i : IVec S512x2 32) (W : FVec Ideal S8x256x512 .f32) : FVec Ideal S512x512 .f32 :=
  addf (mulf (broadcastInDim S512x512 ![0, 1] bcast_S512x1_S512x512_0_1
        (Host.divf (gateR (probsR x w) (col0 i)) (addf (gateR (probsR x w) (col0 i)) (gateR (probsR x w) (col1 i))))) (prodR x W (col0 i)))
    (mulf (broadcastInDim S512x512 ![0, 1] bcast_S512x1_S512x512_0_1
        (Host.divf (gateR (probsR x w) (col1 i)) (addf (gateR (probsR x w) (col0 i)) (gateR (probsR x w) (col1 i))))) (prodR x W (col1 i)))

set_option maxRecDepth 16384

/-- The run's term is this one of the arguments. -/
theorem res_eq (m : (ℓ : Loc nD τ sig) → Buf (Elt Ideal) ℓ) (c : Dev nD) :
    res_main_v68 (F := Ideal) m c = outR (m ((c.tc : Thread nD τ).loc main_arg0)) (m ((c.tc : Thread nD τ).loc main_arg1))
      (m ((c.tc : Thread nD τ).loc main_arg2)) (m ((c.tc : Thread nD τ).loc main_arg3)) := rfl

theorem probsR_apply (x : FVec Ideal S512x256 .f32) (w : FVec Ideal S256x8 .f32) (t : Fin 512) (e : Fin 8) :
    probsR x w (ix2 t e) = Mix.prob (score x w t) e := by
  pointwise [probsR, expR, scoresR]
  rw [Picks.negInf]
  rfl

theorem wrapR_apply (v : IVec S512 32) (n : BitVec 32) (t : Fin 512) (k : Nat) (h : (v (ix1 t)).toInt = k) :
    wrapR v n (ix2 t 0) = v (ix1 t) := by
  pointwise [wrapR]
  exact Picks.wrap_eq _ _ k h

theorem placeR_row (v : IVec S512 32) (t : Fin 512) : placeR v (ix2 t 0) = BitVec.ofNat 32 t.val := by
  refine Eq.trans (b := wrapR (iotaInDim S512 32 0) 512#32 (ix2 t 0)) ?_ ?_
  · pointwise [placeR]
  · rw [wrapR_apply _ _ t t.val (Picks.row_toInt t)]; rfl

theorem placeR_col (v : IVec S512 32) (t : Fin 512) : placeR v (ix2 t 1) = wrapR v 8#32 (ix2 t 0) := by
  pointwise [placeR]

theorem gateR_apply (p : FVec Ideal S512x8 .f32) (v : IVec S512 32) (t : Fin 512) (e : Fin 8) (h : v (ix1 t) = BitVec.ofNat 32 e.val) :
    gateR p v (ix2 t 0) = p (ix2 t e) := by
  have hv : (v (ix1 t)).toInt = e.val := by rw [h, Picks.word_toInt]
  have : gateR p v (ix2 t 0) = Host.gather gather_S512x8_S512x2_S512_n_01_n_n_01_1_11 p (placeR v) (ix1 t) := by pointwise [gateR]
  rw [this]
  exact Picks.cell_apply _ p (placeR v) t t e (by rw [placeR_row, Picks.row_toInt]) (by rw [placeR_col, wrapR_apply v _ t _ hv, hv])

theorem prodR_apply (x : FVec Ideal S512x256 .f32) (W : FVec Ideal S8x256x512 .f32) (v : IVec S512 32) (t : Fin 512) (o : Fin 512) (e : Fin 8)
    (h : v (ix1 t) = BitVec.ofNat 32 e.val) : prodR x W v (ix2 t o) = ∑ j : Fin 256, x (ix2 t j) * W (ix3 e j o) := by
  have hv : (v (ix1 t)).toInt = e.val := by rw [h, Picks.word_toInt]
  have : prodR x W v (ix2 t o) = ∑ j : Fin 256, x (ix2 t j)
      * Host.gather gather_S8x256x512_S512x1_S512x256x512_12_0_n_n_0_1_1256512 W (wrapR v 8#32) (ix3 t j o) := by pointwise [prodR]
  rw [this]
  refine Finset.sum_congr rfl fun j _ => congrArg (x (ix2 t j) * ·) ?_
  exact Picks.slab_apply _ W (wrapR v 8#32) t j o e (by rw [wrapR_apply v _ t _ hv, hv])

/-- The reference's element `(t, o)` is the mixture of the two experts that token `t`'s words name. -/
theorem outR_apply (x : FVec Ideal S512x256 .f32) (w : FVec Ideal S256x8 .f32) (i : IVec S512x2 32) (W : FVec Ideal S8x256x512 .f32)
    (t : Fin 512) (o : Fin 512) (e₀ e₁ : Fin 8) (h₀ : i (ix2 t 0) = BitVec.ofNat 32 e₀.val) (h₁ : i (ix2 t 1) = BitVec.ofNat 32 e₁.val) :
    outR x w i W (ix2 t o) = Mix.mix (score x w t) e₀ e₁ (fun j => x (ix2 t j)) fun e j => W (ix3 e j o) := by
  have c₀ : col0 i (ix1 t) = BitVec.ofNat 32 e₀.val := by rw [← h₀]; pointwise [col0]
  have c₁ : col1 i (ix1 t) = BitVec.ofNat 32 e₁.val := by rw [← h₁]; pointwise [col1]
  have : outR x w i W (ix2 t o)
      = Ideal.div (gateR (probsR x w) (col0 i) (ix2 t 0)) (gateR (probsR x w) (col0 i) (ix2 t 0) + gateR (probsR x w) (col1 i) (ix2 t 0)) * prodR x W (col0 i) (ix2 t o)
        + Ideal.div (gateR (probsR x w) (col1 i) (ix2 t 0)) (gateR (probsR x w) (col0 i) (ix2 t 0) + gateR (probsR x w) (col1 i) (ix2 t 0)) * prodR x W (col1 i) (ix2 t o) := by
    pointwise [outR]
  rw [this, gateR_apply _ _ t e₀ c₀, gateR_apply _ _ t e₁ c₁, prodR_apply _ _ _ t o e₀ c₀, prodR_apply _ _ _ t o e₁ c₁, probsR_apply, probsR_apply]
  rfl

end Cert.ReferenceIdeal.Val

end
-- ==== Proof.Routed.lean ====
/-
  The precondition read at a token: its two words are those of two different experts, and at least one of the two scores it
  names is above minus infinity.
-/
module

public import proofs.«01_k».proof.Proof.Gen.Pre_routed_KernelIdeal
public import proofs.«01_k».proof.Proof.Picks

@[expose] public section

noncomputable section

namespace Cert.Pre_routed_KernelIdeal.Val

open Cert.Pre_routed_KernelIdeal Cert.Pre_routed_KernelIdeal.Gen Idealize.ShloMosaic Cert

set_option maxRecDepth 16384

/-- A token's scores. -/
def score (x : FVec Ideal S512x256 .f32) (w : FVec Ideal S256x8 .f32) (t : Fin 512) (e : Fin 8) : EReal :=
  ∑ k : Fin 256, x (ix2 t k) * w (ix2 k e)

/-- The table of scores, -/
def table (x : FVec Ideal S512x256 .f32) (w : FVec Ideal S256x8 .f32) : FVec Ideal S512x8 .f32 :=
  Host.dotGeneral dot_S512x256_S256x8_S512x8_1_0_0_1_n_n none x w
/-- the tokens' first words, -/
def first (i : IVec S512x2 32) : IVec S512 32 := shapeCast _ (extractStridedSlice S512x1 ![0, 0] i slices_S512x2_S512x1_0_0) shapeCasts_S512x1_S512
/-- their second words, -/
def second (i : IVec S512x2 32) : IVec S512 32 := shapeCast _ (extractStridedSlice S512x1 ![0, 1] i slices_S512x2_S512x1_0_1) shapeCasts_S512x1_S512
/-- one word for all tokens, -/
def same (n : BitVec 32) : IVec S512 32 := broadcastInDim S512 ![] bcast_S_S512 (constantI S_ 32 n)
/-- words with those below zero moved up, as a column, -/
def lifted (v : IVec S512 32) (n : BitVec 32) : IVec S512x1 32 :=
  broadcastInDim S512x1 ![0] bcast_S512_S512x1_0 (select (cmpi .slt v (same 0#32)) (addi v (same n)) v)
/-- the pairs of words a score is read at, -/
def spots (v : IVec S512 32) : IVec S512x2 32 :=
  concatenate S512x2 1 [⟨S512x1, lifted (iotaInDim S512 32 0) 512#32⟩, ⟨S512x1, lifted v 8#32⟩] concatenates_S512x1_S512x1_S512x2_d1
/-- the scores read there, -/
def named (x : FVec Ideal S512x256 .f32) (w : FVec Ideal S256x8 .f32) (v : IVec S512 32) : FVec Ideal S512 .f32 :=
  Host.gather gather_S512x8_S512x2_S512_n_01_n_n_01_1_11 (table x w) (spots v)
/-- which of them are above minus infinity, -/
def above (x : FVec Ideal S512x256 .f32) (w : FVec Ideal S256x8 .f32) (v : IVec S512 32) : IVec S512 1 :=
  cmpf .ogt (named x w v) (broadcastInDim S512 ![] bcast_S_S512 (constant S_ .f32 0xFF800000#32))
/-- and which tokens name two different experts. -/
def apart (a b : IVec S512 32) : IVec S512 1 :=
  andi (andi (andi (andi (cmpi .sge a (same 0#32)) (cmpi .slt a (same 8#32))) (cmpi .sge b (same 0#32))) (cmpi .slt b (same 8#32))) (cmpi .ne a b)

/-- The precondition is both together. -/
theorem fn_eq (x : FVec Ideal S512x256 .f32) (w : FVec Ideal S256x8 .f32) (i : IVec S512x2 32) (E : FVec Ideal S2x256x512 .f32) :
    fn (F := Ideal) x w i E = andi (apart (first i) (second i)) (ori (above x w (first i)) (above x w (second i))) := rfl

theorem first_apply (i : IVec S512x2 32) (t : Fin 512) : first i (ix1 t) = i (ix2 t 0) := by pointwise [first]
theorem second_apply (i : IVec S512x2 32) (t : Fin 512) : second i (ix1 t) = i (ix2 t 1) := by pointwise [second]
theorem table_apply (x : FVec Ideal S512x256 .f32) (w : FVec Ideal S256x8 .f32) (t : Fin 512) (e : Fin 8) :
    table x w (ix2 t e) = score x w t e := by
  pointwise [table]
  rfl

theorem lifted_apply (v : IVec S512 32) (n : BitVec 32) (t : Fin 512) (k : Nat) (h : (v (ix1 t)).toInt = k) :
    lifted v n (ix2 t 0) = v (ix1 t) := by
  pointwise [lifted, same]
  exact Picks.wrap_eq _ _ k h

theorem spots_row (v : IVec S512 32) (t : Fin 512) : (spots v (ix2 t 0)).toInt = t.val := by
  refine (congrArg BitVec.toInt (Eq.trans (b := lifted (iotaInDim S512 32 0) 512#32 (ix2 t 0)) ?_ ?_)).trans (Picks.row_toInt t)
  · pointwise [spots]
  · rw [lifted_apply _ _ t t.val (Picks.row_toInt t)]; rfl

theorem spots_col (v : IVec S512 32) (t : Fin 512) (e : Fin 8) (h : v (ix1 t) = BitVec.ofNat 32 e.val) : (spots v (ix2 t 1)).toInt = e.val := by
  have hv : (v (ix1 t)).toInt = e.val := by rw [h, Picks.word_toInt]
  have : spots v (ix2 t 1) = lifted v 8#32 (ix2 t 0) := by pointwise [spots]
  rw [this, lifted_apply v _ t _ hv, hv]

/-- A score read above minus infinity is the named expert's. -/
theorem above_apply (x : FVec Ideal S512x256 .f32) (w : FVec Ideal S256x8 .f32) (v : IVec S512 32) (t : Fin 512) (e : Fin 8)
    (h : v (ix1 t) = BitVec.ofNat 32 e.val) (ha : above x w v (ix1 t) = 1#1) : score x w t e ≠ ⊥ := by
  have hn : named x w v (ix1 t) = score x w t e :=
    (Picks.cell_apply _ (table x w) (spots v) t t e (spots_row v t) (spots_col v t e h)).trans (table_apply x w t e)
  have hb : above x w v (ix1 t) = FloatOps.cmpf (F := Ideal) .ogt (named x w v (ix1 t)) (Ideal.ofBits .f32 0xFF800000#32) := by pointwise [above]
  rw [hb, hn, Picks.negInf] at ha
  intro hs
  rw [hs] at ha
  have hc : Ideal.cmp .ogt (⊥ : EReal) ⊥ = 1#1 := ha
  simp [Ideal.cmp] at hc

/-- Two bits joined, -/
theorem both (a b : BitVec 1) : IntOp.andi a b = 1#1 → a = 1#1 ∧ b = 1#1 := by revert a b; decide
/-- or either. -/
theorem either (a b : BitVec 1) : IntOp.ori a b = 1#1 → a = 1#1 ∨ b = 1#1 := by revert a b; decide

/-- A word between zero and eight is an expert's. -/
theorem expert (v : BitVec 32) (h : IntOp.cmpi .sge v 0#32 = 1#1) (h' : IntOp.cmpi .slt v 8#32 = 1#1) : ∃ e : Fin 8, v = BitVec.ofNat 32 e.val := by
  have a : (0#32).sle v = true := by
    by_contra hc
    have : IntOp.cmpi .sge v 0#32 = BitVec.ofBool ((0#32).sle v) := rfl
    rw [this, Bool.eq_false_iff.2 hc] at h; exact absurd h (by decide)
  have b : v.slt 8#32 = true := by
    by_contra hc
    have : IntOp.cmpi .slt v 8#32 = BitVec.ofBool (v.slt 8#32) := rfl
    rw [this, Bool.eq_false_iff.2 hc] at h'; exact absurd h' (by decide)
  rw [BitVec.sle_iff_toInt_le] at a
  rw [BitVec.slt_iff_toInt_lt] at b
  have a' : (0 : Int) ≤ v.toInt := a
  have b' : v.toInt < 8 := b
  have ht : v.toNat < 8 := by
    have := v.isLt
    rw [BitVec.toInt_eq_toNat_cond] at a' b'
    split at a' <;> omega
  exact ⟨⟨v.toNat, ht⟩, (BitVec.ofNat_toNat 32 v ▸ by simp)⟩

/-- The precondition, at token `t`. -/
theorem routed (x : FVec Ideal S512x256 .f32) (w : FVec Ideal S256x8 .f32) (i : IVec S512x2 32) (E : FVec Ideal S2x256x512 .f32)
    (h : fn (F := Ideal) x w i E = fun _ => 1#1) (t : Fin 512) :
    ∃ e₀ e₁ : Fin 8, i (ix2 t 0) = BitVec.ofNat 32 e₀.val ∧ i (ix2 t 1) = BitVec.ofNat 32 e₁.val ∧ e₀ ≠ e₁
      ∧ (score x w t e₀ ≠ ⊥ ∨ score x w t e₁ ≠ ⊥) := by
  have ht : andi (apart (first i) (second i)) (ori (above x w (first i)) (above x w (second i))) (ix1 t) = 1#1 :=
    (congrFun (fn_eq x w i E) (ix1 t)).symm.trans (congrFun h (ix1 t))
  obtain ⟨hw, hs⟩ := both _ _ ht
  have hw' : IntOp.andi (IntOp.andi (IntOp.andi (IntOp.andi (IntOp.cmpi .sge (first i (ix1 t)) 0#32) (IntOp.cmpi .slt (first i (ix1 t)) 8#32))
      (IntOp.cmpi .sge (second i (ix1 t)) 0#32)) (IntOp.cmpi .slt (second i (ix1 t)) 8#32)) (IntOp.cmpi .ne (first i (ix1 t)) (second i (ix1 t))) = 1#1 := hw
  obtain ⟨h4, hne⟩ := both _ _ hw'
  obtain ⟨h3, hb'⟩ := both _ _ h4
  obtain ⟨h2, hb⟩ := both _ _ h3
  obtain ⟨ha, ha'⟩ := both _ _ h2
  obtain ⟨e₀, he₀⟩ := expert _ ha ha'
  obtain ⟨e₁, he₁⟩ := expert _ hb hb'
  refine ⟨e₀, e₁, (first_apply i t).symm.trans he₀, (second_apply i t).symm.trans he₁, ?_, ?_⟩
  · rintro rfl
    rw [he₀, he₁] at hne
    have : ∀ e : Fin 8, IntOp.cmpi .ne (BitVec.ofNat 32 e.val) (BitVec.ofNat 32 e.val) ≠ 1#1 := by decide
    exact this e₀ hne
  · rcases either _ _ hs with h' | h'
    · exact Or.inl (above_apply x w _ t e₀ he₀ h')
    · exact Or.inr (above_apply x w _ t e₁ he₁ h')

end Cert.Pre_routed_KernelIdeal.Val

end
-- ==== Proof.Tie.lean ====
/-
  The two programs' results agree: the kernel's sum over devices of the weighted products, two experts to a device, is the
  reference's mixture of the two named experts.
-/
module

public import proofs.«01_k».proof.Proof.ValI
public import proofs.«01_k».proof.Proof.ValR
public import proofs.«01_k».proof.Proof.Routed
public import Idealize.ShloMosaic.Lib.Layout

@[expose] public section

noncomputable section

namespace Cert.KernelIdeal.Val

open Cert.KernelIdeal Cert.KernelIdeal.Gen Cert.KernelIdeal.Moe Idealize.ShloMosaic Idealize.ShloMosaic.TcCoe Cert

set_option maxRecDepth 16384

/-- The probability of the expert that an expert's word names. -/
theorem named_word (s : Fin 8 → EReal) (e : Fin 8) : named s (BitVec.ofNat 32 e.val) = Mix.prob s e := by
  unfold named
  simp only [Picks.word_inj]
  simp

/-- The kernel's weights are the mixture's. -/
theorem wt_eq (x : FVec Ideal S512x256 .f32) (w : FVec Ideal S256x8 .f32) (i : IVec S512x2 32) (t : Fin 512) (e₀ e₁ e : Fin 8)
    (h₀ : i (ix2 t 0) = BitVec.ofNat 32 e₀.val) (h₁ : i (ix2 t 1) = BitVec.ofNat 32 e₁.val) :
    wt x w i t e = Mix.weight (score x w t) e₀ e₁ e := by
  unfold wt Mix.weight
  rw [h₀, h₁, named_word, named_word]
  simp only [Picks.word_inj]

/-- The four devices' parts, from any of them, are the eight experts'. -/
theorem devices (f : Fin 8 → EReal) (c : Dev nD) :
    (f (ea c) + f (eb c)) + (f (ea (pv 0 c)) + f (eb (pv 0 c))) + (f (ea (pv 1 c)) + f (eb (pv 1 c))) + (f (ea (pv 2 c)) + f (eb (pv 2 c)))
      = ∑ e, f e := by
  rw [Fin.sum_univ_eight]
  have hc : ∀ c : Dev nD, c = (0 : Fin 4) ∨ c = (1 : Fin 4) ∨ c = (2 : Fin 4) ∨ c = (3 : Fin 4) := by decide
  have e0 : ea (0 : Fin 4) = 0 ∧ eb (0 : Fin 4) = 1 := ⟨rfl, rfl⟩
  have e1 : ea (1 : Fin 4) = 2 ∧ eb (1 : Fin 4) = 3 := ⟨rfl, rfl⟩
  have e2 : ea (2 : Fin 4) = 4 ∧ eb (2 : Fin 4) = 5 := ⟨rfl, rfl⟩
  have e3 : ea (3 : Fin 4) = 6 ∧ eb (3 : Fin 4) = 7 := ⟨rfl, rfl⟩
  have p0 : pv 0 (0 : Fin 4) = (3 : Fin 4) ∧ pv 1 (0 : Fin 4) = (2 : Fin 4) ∧ pv 2 (0 : Fin 4) = (1 : Fin 4) := by decide +kernel
  have p1 : pv 0 (1 : Fin 4) = (0 : Fin 4) ∧ pv 1 (1 : Fin 4) = (3 : Fin 4) ∧ pv 2 (1 : Fin 4) = (2 : Fin 4) := by decide +kernel
  have p2 : pv 0 (2 : Fin 4) = (1 : Fin 4) ∧ pv 1 (2 : Fin 4) = (0 : Fin 4) ∧ pv 2 (2 : Fin 4) = (3 : Fin 4) := by decide +kernel
  have p3 : pv 0 (3 : Fin 4) = (2 : Fin 4) ∧ pv 1 (3 : Fin 4) = (1 : Fin 4) ∧ pv 2 (3 : Fin 4) = (0 : Fin 4) := by decide +kernel
  rcases hc c with rfl | rfl | rfl | rfl
  · rw [p0.1, p0.2.1, p0.2.2, e0.1, e0.2, e1.1, e1.2, e2.1, e2.2, e3.1, e3.2]; abel
  · rw [p1.1, p1.2.1, p1.2.2, e0.1, e0.2, e1.1, e1.2, e2.1, e2.2, e3.1, e3.2]; abel
  · rw [p2.1, p2.2.1, p2.2.2, e0.1, e0.2, e1.1, e1.2, e2.1, e2.2, e3.1, e3.2]; abel
  · rw [p3.1, p3.2.1, p3.2.2, e0.1, e0.2, e1.1, e1.2, e2.1, e2.2, e3.1, e3.2]; abel

/-- A device's two matrices are the two of the whole that its experts name. -/
theorem slab_a (W : FVec Ideal ⟨3, ![8, 256, 512]⟩ .f32) (d : Dev nD) (k : Fin 256) (o : Fin 512) :
    Layout.block ⟨3, ![2, 256, 512]⟩ ⟨3, ![8, 256, 512]⟩ 0 4 d W (by decide) (ix3 0 k o) = W (ix3 (ea d) k o) := by
  refine congrArg W (funext fun a => Fin.ext ?_)
  match a with
  | ⟨0, _⟩ => show d.val * 2 + 0 = 2 * d.val; omega
  | ⟨1, _⟩ => rfl
  | ⟨2, _⟩ => rfl
theorem slab_b (W : FVec Ideal ⟨3, ![8, 256, 512]⟩ .f32) (d : Dev nD) (k : Fin 256) (o : Fin 512) :
    Layout.block ⟨3, ![2, 256, 512]⟩ ⟨3, ![8, 256, 512]⟩ 0 4 d W (by decide) (ix3 1 k o) = W (ix3 (eb d) k o) := by
  refine congrArg W (funext fun a => Fin.ext ?_)
  match a with
  | ⟨0, _⟩ => show d.val * 2 + 1 = 2 * d.val + 1; omega
  | ⟨1, _⟩ => rfl
  | ⟨2, _⟩ => rfl

variable (m : (ℓ : Loc nD τ sig) → Buf (Elt Ideal) ℓ) (ρ : Dev nD → PrngReg)

/-- What device `c` ends with is its block of the reference's result. -/
theorem outAt_eq (x : FVec Ideal S512x256 .f32) (w : FVec Ideal S256x8 .f32) (i : IVec S512x2 32) (W : FVec Ideal ⟨3, ![8, 256, 512]⟩ .f32)
    (hx : ∀ c : Dev nD, m ((c : Thread nD τ).loc main_arg0) = x) (hw : ∀ c : Dev nD, m ((c : Thread nD τ).loc main_arg1) = w)
    (hi : ∀ c : Dev nD, m ((c : Thread nD τ).loc main_arg2) = i)
    (hW : ∀ c : Dev nD, m ((c : Thread nD τ).loc main_arg3) = Layout.block ⟨3, ![2, 256, 512]⟩ ⟨3, ![8, 256, 512]⟩ 0 4 c W)
    (hr : ∀ t : Fin 512, ∃ e₀ e₁ : Fin 8, i (ix2 t 0) = BitVec.ofNat 32 e₀.val ∧ i (ix2 t 1) = BitVec.ofNat 32 e₁.val ∧ e₀ ≠ e₁
      ∧ (score x w t e₀ ≠ ⊥ ∨ score x w t e₁ ≠ ⊥)) (c : Dev nD) :
    outAt (F := Ideal) m ρ c = Layout.block ⟨2, ![128, 512]⟩ ⟨2, ![512, 512]⟩ 0 4 c (Cert.ReferenceIdeal.Val.outR x w i W) := by
  funext j
  obtain ⟨r, o, rfl⟩ : ∃ (r : Fin 128) (o : Fin 512), j = ix2 r o := ⟨j 0, j 1, by funext a; match a with | ⟨0, _⟩ => rfl | ⟨1, _⟩ => rfl⟩
  obtain ⟨e₀, e₁, h₀, h₁, hne, hs⟩ := hr (tok c r)
  have hb : Layout.block ⟨2, ![128, 512]⟩ ⟨2, ![512, 512]⟩ 0 4 c (Cert.ReferenceIdeal.Val.outR x w i W) (by decide) (ix2 r o)
      = Cert.ReferenceIdeal.Val.outR x w i W (ix2 (tok c r) o) := by
    refine congrArg (Cert.ReferenceIdeal.Val.outR x w i W) (funext fun a => Fin.ext ?_)
    match a with
    | ⟨0, _⟩ => show c.val * 128 + r.val = 128 * c.val + r.val; omega
    | ⟨1, _⟩ => rfl
  have hp : ∀ d : Dev nD, part m ρ d (tok c r) o
      = (∑ k : Fin 256, Mix.weight (score x w (tok c r)) e₀ e₁ (ea d) * x (ix2 (tok c r) k) * W (ix3 (ea d) k o))
        + ∑ k : Fin 256, Mix.weight (score x w (tok c r)) e₀ e₁ (eb d) * x (ix2 (tok c r) k) * W (ix3 (eb d) k o) := by
    intro d
    unfold part
    rw [xs_eq, ws_eq, is_eq, es_eq, hx, hw, hi, hW, wt_eq x w i _ e₀ e₁ _ h₀ h₁, wt_eq x w i _ e₀ e₁ _ h₀ h₁]
    simp only [slab_a, slab_b]
  refine (outAt_apply m ρ c r o).trans (Eq.trans ?_ hb.symm)
  rw [hp, hp, hp, hp, Cert.ReferenceIdeal.Val.outR_apply x w i W _ o e₀ e₁ h₀ h₁]
  refine Eq.trans (devices (fun e => ∑ k : Fin 256, Mix.weight (score x w (tok c r)) e₀ e₁ e * x (ix2 (tok c r) k) * W (ix3 e k o)) c) ?_
  exact Mix.mixture (score x w (tok c r)) e₀ e₁ hne hs (fun k => x (ix2 (tok c r) k)) fun e k => W (ix3 e k o)

end Cert.KernelIdeal.Val

end
-- ==== Proof.lean ====
/-
  The certificate's claims: three frames (each with the two that add a precondition), `preserves`, and `algebraic`, put
  together from the runs of the two programs (RunK.lean, RunI.lean, the reference's generated run) and the agreement of
  their results (Tie.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_routed_KernelIdeal
public import proofs.«01_k».proof.Proof.Gen.Pre_routed_ReferenceIdeal
public import proofs.«01_k».proof.Proof.Gen.ReferenceIdeal.Run
public import proofs.«01_k».proof.Proof.RunK
public import proofs.«01_k».proof.Proof.RunI
public import proofs.«01_k».proof.Proof.Tie
public import Idealize.ShloMosaic.Adequacy
public import Idealize.ShloMosaic.Init

@[expose] public section

noncomputable section

namespace Cert.Proof

open Idealize.ShloMosaic Idealize.SL.Sem

/-- The kernel as printed, over floats: every execution ends, the four argument arrays hold what they held, and every
    counter is back at zero. -/
theorem frame_kernel : @Cert.quiescent_Kernel Cert.Kernel.Gen.facts := fun m g _ =>
  (θ_run Cert.Kernel.defs _ _).mono (fun _ h =>
    ⟨fun c => ⟨(h.1 c 0).trans (Cert.Kernel.Moe.finalA_in m g c 0 rfl), (h.1 c 1).trans (Cert.Kernel.Moe.finalA_in m g c 1 rfl),
      (h.1 c 2).trans (Cert.Kernel.Moe.finalA_in m g c 2 rfl), (h.1 c 3).trans (Cert.Kernel.Moe.finalA_in m g c 3 rfl)⟩, h.2⟩)
    (Cert.Kernel.Moe.run_main (F := Bits) m g)

/-- The same of the kernel read over the extended reals. -/
theorem frame_kernelIdeal : @Cert.quiescent_KernelIdeal Cert.KernelIdeal.Gen.facts := fun m g _ =>
  (θ_run Cert.KernelIdeal.defs _ _).mono (fun _ h =>
    ⟨fun c => ⟨(h.1 c 0).trans (Cert.KernelIdeal.Moe.finalA_in m g c 0 rfl), (h.1 c 1).trans (Cert.KernelIdeal.Moe.finalA_in m g c 1 rfl),
      (h.1 c 2).trans (Cert.KernelIdeal.Moe.finalA_in m g c 2 rfl), (h.1 c 3).trans (Cert.KernelIdeal.Moe.finalA_in m g c 3 rfl)⟩, h.2⟩)
    (Cert.KernelIdeal.Moe.run_main (F := Ideal) m g)

/-- The reference has no counter to leave above zero, and its arguments end unchanged. -/
theorem frame_reference : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-- From memories that agree, under the precondition, both programs run; the reference's result is a value of which every
    device's result is its block, and no argument changes. -/
theorem algebraic : @Cert.algebraic_KernelIdeal_ReferenceIdeal_pre_routed_KernelIdeal Cert.KernelIdeal.Gen.facts Cert.ReferenceIdeal.Gen.facts
    Cert.Pre_routed_KernelIdeal.Gen.facts := fun m g m' g' hpre hin => by
  refine ⟨Cert.ReferenceIdeal.Value.res_main_v68 (F := Ideal) m' 0, ?_, ?_⟩
  · refine (θ_run Cert.KernelIdeal.defs _ _).mono (fun _ h c => ⟨?_, (h.1 c 0).trans (Cert.KernelIdeal.Moe.finalA_in m g c 0 rfl),
      (h.1 c 1).trans (Cert.KernelIdeal.Moe.finalA_in m g c 1 rfl), (h.1 c 2).trans (Cert.KernelIdeal.Moe.finalA_in m g c 2 rfl),
      (h.1 c 3).trans (Cert.KernelIdeal.Moe.finalA_in m g c 3 rfl)⟩) (Cert.KernelIdeal.Moe.run_main (F := Ideal) m g)
    have hp := hpre 0
    rw [(hin 0).1, (hin 0).2.1, (hin 0).2.2.1] at hp
    exact ((h.1 c 4).trans (Cert.KernelIdeal.Val.final_out m g c)).trans
      (Cert.KernelIdeal.Val.outAt_eq m g _ _ _ _ (fun d => (hin d).1) (fun d => (hin d).2.1) (fun d => (hin d).2.2.1) (fun d => (hin d).2.2.2)
        (Cert.Pre_routed_KernelIdeal.Val.routed _ _ _ _ hp) c)
  · exact (θ_run Cert.ReferenceIdeal.defs _ _).mono (fun _ h => h 0) (Cert.ReferenceIdeal.Value.run (F := Ideal) m' g')

/-- Everything the certificate claims. The two frames under the precondition follow from those without it. -/
theorem claim : Cert.Claim := ⟨Cert.Kernel.Gen.facts, Cert.KernelIdeal.Gen.facts, Cert.ReferenceIdeal.Gen.facts,
  Cert.Pre_routed_KernelIdeal.Gen.facts, Cert.Pre_routed_ReferenceIdeal.Gen.facts,
  frame_kernel, frame_kernelIdeal, fun m g _ => frame_kernelIdeal m g trivial, frame_reference, fun m g _ => frame_reference m g trivial,
  trivial, algebraic⟩

end Cert.Proof

end
